-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_args : Cert.Pre_finite_args.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ preserves_Kernel_KernelIdeal
    ∧ algebraic_KernelIdeal_ReferenceIdeal_pre_finite_args (hKernelIdeal := hKernelIdeal) (hReferenceIdeal := hReferenceIdeal) (hPre_finite_args := hPre_finite_args)
-- ==== Pre_finite_args.lean ====
abbrev S4096x256 : Shape := ⟨2, ![4096, 256]⟩
abbrev S4096x4096 : Shape := ⟨2, ![4096, 4096]⟩
abbrev S256x128 : Shape := ⟨2, ![256, 128]⟩
abbrev S256x1 : Shape := ⟨2, ![256, 1]⟩
abbrev S512x128 : Shape := ⟨2, ![512, 128]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256x1 : S_.BroadcastsInDim S256x1 (![] : Fin 0 → Fin S256x1.rank)
  reducesTo_S256x1_S_d0_1 : S256x1.ReducesTo [0, 1] S_
  bcast_S_S512x128 : S_.BroadcastsInDim S512x128 (![] : Fin 0 → Fin S512x128.rank)
  reducesTo_S512x128_S_d0_1 : S512x128.ReducesTo [0, 1] S_

variable [Facts]

def fn_part3 {F : FTy → Type} [FloatOps F] (main_v48 : IVec S_ 1) (main_v49 : FVec F S256x1 .f32) (main_v50 : FVec F S256x1 .f32) : IVec S_ 1 :=
  let main_v51 : IVec S256x1 1 := cmpf .olt main_v49 main_v50
  let main_c_19 : IVec S_ 1 := constantI S_ 1 1#1
  let main_v52 : IVec S_ 1 := (fun x v => Host.reduce IntOp.andi x v reducesTo_S256x1_S_d0_1 h_S_) main_v51 main_c_19
  let main_v53 : IVec S_ 1 := andi main_v48 main_v52
  main_v53

def fn_part2 {F : FTy → Type} [FloatOps F] (main_arg8 : FVec F S256x128 .f32) (main_arg9 : FVec F S256x1 .f32) (main_arg10 : FVec F S512x128 .f32) (main_arg11 : FVec F S256x1 .f32) (main_v33 : IVec S_ 1) : IVec S_ 1 :=
  let main_v34 : FVec F S256x128 .f32 := Host.absf main_arg8
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S256x1 .f32 := Host.absf main_arg9
  let main_cst_14 : FVec F S_ .f32 := constant S_ .f32 0x7F800000#32
  let main_v40 : FVec F S256x1 .f32 := broadcastInDim S256x1 ![] bcast_S_S256x1 main_cst_14
  let main_v41 : IVec S256x1 1 := cmpf .olt main_v39 main_v40
  let main_c_15 : IVec S_ 1 := constantI S_ 1 1#1
  let main_v42 : IVec S_ 1 := (fun x v => Host.reduce IntOp.andi x v reducesTo_S256x1_S_d0_1 h_S_) main_v41 main_c_15
  let main_v43 : IVec S_ 1 := andi main_v38 main_v42
  let main_v44 : FVec F S512x128 .f32 := Host.absf main_arg10
  let main_cst_16 : FVec F S_ .f32 := constant S_ .f32 0x7F800000#32
  let main_v45 : FVec F S512x128 .f32 := broadcastInDim S512x128 ![] bcast_S_S512x128 main_cst_16
  let main_v46 : IVec S512x128 1 := cmpf .olt main_v44 main_v45
  let main_c_17 : IVec S_ 1 := constantI S_ 1 1#1
  let main_v47 : IVec S_ 1 := (fun x v => Host.reduce IntOp.andi x v reducesTo_S512x128_S_d0_1 h_S_) main_v46 main_c_17
  let main_v48 : IVec S_ 1 := andi main_v43 main_v47
  let main_v49 : FVec F S256x1 .f32 := Host.absf main_arg11
  let main_cst_18 : FVec F S_ .f32 := constant S_ .f32 0x7F800000#32
  let main_v50 : FVec F S256x1 .f32 := broadcastInDim S256x1 ![] bcast_S_S256x1 main_cst_18
  fn_part3 (F := F) main_v48 main_v49 main_v50

def fn_part1 {F : FTy → Type} [FloatOps F] (main_arg5 : FVec F S256x1 .f32) (main_arg6 : FVec F S256x128 .f32) (main_arg7 : FVec F S256x1 .f32) (main_arg8 : FVec F S256x128 .f32) (main_arg9 : FVec F S256x1 .f32) (main_arg10 : FVec F S512x128 .f32) (main_arg11 : FVec F S256x1 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256x1 .f32 := Host.absf main_arg5
  let main_cst_6 : FVec F S_ .f32 := constant S_ .f32 0x7F800000#32
  let main_v20 : FVec F S256x1 .f32 := broadcastInDim S256x1 ![] bcast_S_S256x1 main_cst_6
  let main_v21 : IVec S256x1 1 := cmpf .olt main_v19 main_v20
  let main_c_7 : IVec S_ 1 := constantI S_ 1 1#1
  let main_v22 : IVec S_ 1 := (fun x v => Host.reduce IntOp.andi x v reducesTo_S256x1_S_d0_1 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S256x1 .f32 := Host.absf main_arg7
  let main_cst_10 : FVec F S_ .f32 := constant S_ .f32 0x7F800000#32
  let main_v30 : FVec F S256x1 .f32 := broadcastInDim S256x1 ![] bcast_S_S256x1 main_cst_10
  let main_v31 : IVec S256x1 1 := cmpf .olt main_v29 main_v30
  let main_c_11 : IVec S_ 1 := constantI S_ 1 1#1
  let main_v32 : IVec S_ 1 := (fun x v => Host.reduce IntOp.andi x v reducesTo_S256x1_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S4096x256 .f32) (main_arg1 : FVec F S4096x4096 .f32) (main_arg2 : FVec F S256x128 .f32) (main_arg3 : FVec F S256x1 .f32) (main_arg4 : FVec F S256x128 .f32) (main_arg5 : FVec F S256x1 .f32) (main_arg6 : FVec F S256x128 .f32) (main_arg7 : FVec F S256x1 .f32) (main_arg8 : FVec F S256x128 .f32) (main_arg9 : FVec F S256x1 .f32) (main_arg10 : FVec F S512x128 .f32) (main_arg11 : FVec F S256x1 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256x1 .f32 := Host.absf main_arg3
  let main_cst_2 : FVec F S_ .f32 := constant S_ .f32 0x7F800000#32
  let main_v10 : FVec F S256x1 .f32 := broadcastInDim S256x1 ![] bcast_S_S256x1 main_cst_2
  let main_v11 : IVec S256x1 1 := cmpf .olt main_v9 main_v10
  let main_c_3 : IVec S_ 1 := constantI S_ 1 1#1
  let main_v12 : IVec S_ 1 := (fun x v => Host.reduce IntOp.andi x v reducesTo_S256x1_S_d0_1 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_arg8 main_arg9 main_arg10 main_arg11 main_v13 main_v16
-- ==== Kernel.lean ====
abbrev S4096x256 : Shape := ⟨2, ![4096, 256]⟩
abbrev S4096x4096 : Shape := ⟨2, ![4096, 4096]⟩
abbrev S256x128 : Shape := ⟨2, ![256, 128]⟩
abbrev S256x1 : Shape := ⟨2, ![256, 1]⟩
abbrev S512x128 : Shape := ⟨2, ![512, 128]⟩
abbrev S256x512 : Shape := ⟨2, ![256, 512]⟩
abbrev S_ : Shape := ⟨0, ![]⟩
abbrev S512x4 : Shape := ⟨2, ![512, 4]⟩
abbrev S128x1 : Shape := ⟨2, ![128, 1]⟩
abbrev S128 : Shape := ⟨1, ![128]⟩
abbrev S1 : Shape := ⟨1, ![1]⟩
abbrev S2 : Shape := ⟨1, ![2]⟩
abbrev S4096x512 : Shape := ⟨2, ![4096, 512]⟩
abbrev S4096x4 : Shape := ⟨2, ![4096, 4]⟩
abbrev S512x256 : Shape := ⟨2, ![512, 256]⟩
abbrev S512x512 : Shape := ⟨2, ![512, 512]⟩
abbrev S512x1 : Shape := ⟨2, ![512, 1]⟩
abbrev S1x512 : Shape := ⟨2, ![1, 512]⟩
abbrev S512 : Shape := ⟨1, ![512]⟩
abbrev S4096x128 : Shape := ⟨2, ![4096, 128]⟩
abbrev S4096x1 : Shape := ⟨2, ![4096, 1]⟩

abbrev nBuf : Space → Nat
  | .hbm => 91
  | .vmem => 48
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x128, .f32⟩
  | .hbm, ⟨3, _⟩ => ⟨S256x1, .f32⟩
  | .hbm, ⟨4, _⟩ => ⟨S256x128, .f32⟩
  | .hbm, ⟨5, _⟩ => ⟨S256x1, .f32⟩
  | .hbm, ⟨6, _⟩ => ⟨S256x128, .f32⟩
  | .hbm, ⟨7, _⟩ => ⟨S256x1, .f32⟩
  | .hbm, ⟨8, _⟩ => ⟨S256x128, .f32⟩
  | .hbm, ⟨9, _⟩ => ⟨S256x1, .f32⟩
  | .hbm, ⟨10, _⟩ => ⟨S512x128, .f32⟩
  | .hbm, ⟨11, _⟩ => ⟨S256x1, .f32⟩
  | .hbm, ⟨12, _⟩ => ⟨S256x512, .f32⟩
  | .hbm, ⟨13, _⟩ => ⟨S_, .f32⟩
  | .hbm, ⟨14, _⟩ => ⟨S512x4, .f32⟩
  | .hbm, ⟨15, _⟩ => ⟨S_, .f32⟩
  | .hbm, ⟨16, _⟩ => ⟨S512x4, .f32⟩
  | .hbm, ⟨17, _⟩ => ⟨S128x1, .f32⟩
  | .hbm, ⟨18, _⟩ => ⟨S128, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S2, .i32⟩
  | .hbm, ⟨24, _⟩ => ⟨S512x4, .f32⟩
  | .hbm, ⟨25, _⟩ => ⟨S128x1, .f32⟩
  | .hbm, ⟨26, _⟩ => ⟨S128, .f32⟩
  | .hbm, ⟨27, _⟩ => ⟨S_, .i32⟩
  | .hbm, ⟨28, _⟩ => ⟨S1, .i32⟩
  | .hbm, ⟨29, _⟩ => ⟨S_, .i32⟩
  | .hbm, ⟨30, _⟩ => ⟨S1, .i32⟩
  | .hbm, ⟨31, _⟩ => ⟨S2, .i32⟩
  | .hbm, ⟨32, _⟩ => ⟨S512x4, .f32⟩
  | .hbm, ⟨33, _⟩ => ⟨S128x1, .f32⟩
  | .hbm, ⟨34, _⟩ => ⟨S128, .f32⟩
  | .hbm, ⟨35, _⟩ => ⟨S_, .i32⟩
  | .hbm, ⟨36, _⟩ => ⟨S1, .i32⟩
  | .hbm, ⟨37, _⟩ => ⟨S_, .i32⟩
  | .hbm, ⟨38, _⟩ => ⟨S1, .i32⟩
  | .hbm, ⟨39, _⟩ => ⟨S2, .i32⟩
  | .hbm, ⟨40, _⟩ => ⟨S512x4, .f32⟩
  | .hbm, ⟨41, _⟩ => ⟨S128x1, .f32⟩
  | .hbm, ⟨42, _⟩ => ⟨S128, .f32⟩
  | .hbm, ⟨43, _⟩ => ⟨S_, .i32⟩
  | .hbm, ⟨44, _⟩ => ⟨S1, .i32⟩
  | .hbm, ⟨45, _⟩ => ⟨S_, .i32⟩
  | .hbm, ⟨46, _⟩ => ⟨S1, .i32⟩
  | .hbm, ⟨47, _⟩ => ⟨S2, .i32⟩
  | .hbm, ⟨48, _⟩ => ⟨S512x4, .f32⟩
  | .hbm, ⟨49, _⟩ => ⟨S128x1, .f32⟩
  | .hbm, ⟨50, _⟩ => ⟨S128, .f32⟩
  | .hbm, ⟨51, _⟩ => ⟨S_, .i32⟩
  | .hbm, ⟨52, _⟩ => ⟨S1, .i32⟩
  | .hbm, ⟨53, _⟩ => ⟨S_, .i32⟩
  | .hbm, ⟨54, _⟩ => ⟨S1, .i32⟩
  | .hbm, ⟨55, _⟩ => ⟨S2, .i32⟩
  | .hbm, ⟨56, _⟩ => ⟨S512x4, .f32⟩
  | .hbm, ⟨57, _⟩ => ⟨S128x1, .f32⟩
  | .hbm, ⟨58, _⟩ => ⟨S128, .f32⟩
  | .hbm, ⟨59, _⟩ => ⟨S_, .i32⟩
  | .hbm, ⟨60, _⟩ => ⟨S1, .i32⟩
  | .hbm, ⟨61, _⟩ => ⟨S_, .i32⟩
  | .hbm, ⟨62, _⟩ => ⟨S1, .i32⟩
  | .hbm, ⟨63, _⟩ => ⟨S2, .i32⟩
  | .hbm, ⟨64, _⟩ => ⟨S512x4, .f32⟩
  | .hbm, ⟨65, _⟩ => ⟨S128x1, .f32⟩
  | .hbm, ⟨66, _⟩ => ⟨S128, .f32⟩
  | .hbm, ⟨67, _⟩ => ⟨S_, .i32⟩
  | .hbm, ⟨68, _⟩ => ⟨S1, .i32⟩
  | .hbm, ⟨69, _⟩ => ⟨S_, .i32⟩
  | .hbm, ⟨70, _⟩ => ⟨S1, .i32⟩
  | .hbm, ⟨71, _⟩ => ⟨S2, .i32⟩
  | .hbm, ⟨72, _⟩ => ⟨S512x4, .f32⟩
  | .hbm, ⟨73, _⟩ => ⟨S128x1, .f32⟩
  | .hbm, ⟨74, _⟩ => ⟨S128, .f32⟩
  | .hbm, ⟨75, _⟩ => ⟨S_, .i32⟩
  | .hbm, ⟨76, _⟩ => ⟨S1, .i32⟩
  | .hbm, ⟨77, _⟩ => ⟨S_, .i32⟩
  | .hbm, ⟨78, _⟩ => ⟨S1, .i32⟩
  | .hbm, ⟨79, _⟩ => ⟨S2, .i32⟩
  | .hbm, ⟨80, _⟩ => ⟨S512x4, .f32⟩
  | .hbm, ⟨81, _⟩ => ⟨S4096x512, .f32⟩
  | .hbm, ⟨82, _⟩ => ⟨S4096x4, .f32⟩
  | .hbm, ⟨83, _⟩ => ⟨S4096x4, .f32⟩
  | .hbm, ⟨84, _⟩ => ⟨S4096x512, .f32⟩
  | .hbm, ⟨85, _⟩ => ⟨S128x1, .f32⟩
  | .hbm, ⟨86, _⟩ => ⟨S128x1, .f32⟩
  | .hbm, ⟨87, _⟩ => ⟨S4096x128, .f32⟩
  | .hbm, ⟨88, _⟩ => ⟨S4096x1, .f32⟩
  | .hbm, ⟨89, _⟩ => ⟨S4096x1, .f32⟩
  | .hbm, ⟨90, _⟩ => ⟨S4096x128, .f32⟩
  | .local _ .vmem, ⟨0, _⟩ => ⟨S512x256, .f32⟩
  | .local _ .vmem, ⟨1, _⟩ => ⟨S512x256, .f32⟩
  | .local _ .vmem, ⟨2, _⟩ => ⟨S256x512, .f32⟩
  | .local _ .vmem, ⟨3, _⟩ => ⟨S512x4, .f32⟩
  | .local _ .vmem, ⟨4, _⟩ => ⟨S512x4, .f32⟩
  | .local _ .vmem, ⟨5, _⟩ => ⟨S512x512, .f32⟩
  | .local _ .vmem, ⟨6, _⟩ => ⟨S512x512, .f32⟩
  | .local _ .vmem, ⟨7, _⟩ => ⟨S512x4, .f32⟩
  | .local _ .vmem, ⟨8, _⟩ => ⟨S512x4, .f32⟩
  | .local _ .vmem, ⟨9, _⟩ => ⟨S512x4, .f32⟩
  | .local _ .vmem, ⟨10, _⟩ => ⟨S512x4, .f32⟩
  | .local _ .vmem, ⟨11, _⟩ => ⟨S512x512, .f32⟩
  | .local _ .vmem, ⟨12, _⟩ => ⟨S512x512, .f32⟩
  | .local _ .vmem, ⟨13, _⟩ => ⟨S512x4, .f32⟩
  | .local _ .vmem, ⟨14, _⟩ => ⟨S512x4, .f32⟩
  | .local _ .vmem, ⟨15, _⟩ => ⟨S512x4, .f32⟩
  | .local _ .vmem, ⟨16, _⟩ => ⟨S512x4, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x4, .f32⟩
  | .local _ .vmem, ⟨22, _⟩ => ⟨S512x4, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x128, .f32⟩
  | .local _ .vmem, ⟨27, _⟩ => ⟨S128x1, .f32⟩
  | .local _ .vmem, ⟨28, _⟩ => ⟨S128x1, .f32⟩
  | .local _ .vmem, ⟨29, _⟩ => ⟨S512x128, .f32⟩
  | .local _ .vmem, ⟨30, _⟩ => ⟨S512x128, .f32⟩
  | .local _ .vmem, ⟨31, _⟩ => ⟨S512x1, .f32⟩
  | .local _ .vmem, ⟨32, _⟩ => ⟨S512x1, .f32⟩
  | .local _ .vmem, ⟨33, _⟩ => ⟨S512x1, .f32⟩
  | .local _ .vmem, ⟨34, _⟩ => ⟨S512x1, .f32⟩
  | .local _ .vmem, ⟨35, _⟩ => ⟨S512x512, .f32⟩
  | .local _ .vmem, ⟨36, _⟩ => ⟨S512x512, .f32⟩
  | .local _ .vmem, ⟨37, _⟩ => ⟨S512x1, .f32⟩
  | .local _ .vmem, ⟨38, _⟩ => ⟨S512x1, .f32⟩
  | .local _ .vmem, ⟨39, _⟩ => ⟨S512x1, .f32⟩
  | .local _ .vmem, ⟨40, _⟩ => ⟨S512x1, .f32⟩
  | .local _ .vmem, ⟨41, _⟩ => ⟨S512x128, .f32⟩
  | .local _ .vmem, ⟨42, _⟩ => ⟨S512x128, .f32⟩
  | .local _ .vmem, ⟨43, _⟩ => ⟨S512x128, .f32⟩
  | .local _ .vmem, ⟨44, _⟩ => ⟨S512x128, .f32⟩
  | .local _ .vmem, ⟨45, _⟩ => ⟨S512x1, .f32⟩
  | .local _ .vmem, ⟨46, _⟩ => ⟨S512x1, .f32⟩
  | .local _ .vmem, ⟨47, _⟩ => ⟨S512x128, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_c_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_2 : Ref sig .tc := ⟨.hbm, 27, rfl⟩
abbrev main_v11 : Ref sig .tc := ⟨.hbm, 28, rfl⟩
abbrev main_c_3 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_4 : Ref sig .tc := ⟨.hbm, 35, rfl⟩
abbrev main_v17 : Ref sig .tc := ⟨.hbm, 36, rfl⟩
abbrev main_c_5 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_6 : Ref sig .tc := ⟨.hbm, 43, rfl⟩
abbrev main_v23 : Ref sig .tc := ⟨.hbm, 44, rfl⟩
abbrev main_c_7 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_8 : Ref sig .tc := ⟨.hbm, 51, rfl⟩
abbrev main_v29 : Ref sig .tc := ⟨.hbm, 52, rfl⟩
abbrev main_c_9 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_10 : Ref sig .tc := ⟨.hbm, 59, rfl⟩
abbrev main_v35 : Ref sig .tc := ⟨.hbm, 60, rfl⟩
abbrev main_c_11 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_c_12 : Ref sig .tc := ⟨.hbm, 67, rfl⟩
abbrev main_v41 : Ref sig .tc := ⟨.hbm, 68, rfl⟩
abbrev main_c_13 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_c_14 : Ref sig .tc := ⟨.hbm, 75, rfl⟩
abbrev main_v47 : Ref sig .tc := ⟨.hbm, 76, rfl⟩
abbrev main_c_15 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51_0 : Ref sig .tc := ⟨.hbm, 81, rfl⟩
abbrev main_v51_1 : Ref sig .tc := ⟨.hbm, 82, rfl⟩
abbrev main_v51_2 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55_0 : Ref sig .tc := ⟨.hbm, 87, rfl⟩
abbrev main_v55_1 : Ref sig .tc := ⟨.hbm, 88, rfl⟩
abbrev main_v55_2 : Ref sig .tc := ⟨.hbm, 89, rfl⟩
abbrev main_v56 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_scratch0 : Ref sig .tc := ⟨.vmem, 21, rfl⟩
abbrev cc1_scratch1 : Ref sig .tc := ⟨.vmem, 22, rfl⟩
abbrev cc1_scratch2 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg4_1 : Ref sig .tc := ⟨.vmem, 30, rfl⟩
abbrev cc2_stg5_0 : Ref sig .tc := ⟨.vmem, 31, rfl⟩
abbrev cc2_stg5_1 : Ref sig .tc := ⟨.vmem, 32, rfl⟩
abbrev cc2_stg6_0 : Ref sig .tc := ⟨.vmem, 33, rfl⟩
abbrev cc2_stg6_1 : Ref sig .tc := ⟨.vmem, 34, rfl⟩
abbrev cc3_stg0_0 : Ref sig .tc := ⟨.vmem, 35, rfl⟩
abbrev cc3_stg0_1 : Ref sig .tc := ⟨.vmem, 36, rfl⟩
abbrev cc3_stg1_0 : Ref sig .tc := ⟨.vmem, 37, rfl⟩
abbrev cc3_stg1_1 : Ref sig .tc := ⟨.vmem, 38, rfl⟩
abbrev cc3_stg2_0 : Ref sig .tc := ⟨.vmem, 39, rfl⟩
abbrev cc3_stg2_1 : Ref sig .tc := ⟨.vmem, 40, rfl⟩
abbrev cc3_stg3_0 : Ref sig .tc := ⟨.vmem, 41, rfl⟩
abbrev cc3_stg3_1 : Ref sig .tc := ⟨.vmem, 42, rfl⟩
abbrev cc3_stg4_0 : Ref sig .tc := ⟨.vmem, 43, rfl⟩
abbrev cc3_stg4_1 : Ref sig .tc := ⟨.vmem, 44, rfl⟩
abbrev cc3_scratch0 : Ref sig .tc := ⟨.vmem, 45, rfl⟩
abbrev cc3_scratch1 : Ref sig .tc := ⟨.vmem, 46, rfl⟩
abbrev cc3_scratch2 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem3_0 : DmaSem sig := 25
abbrev cc2_sem4_0 : DmaSem sig := 26
abbrev cc2_sem4_1 : DmaSem sig := 27
abbrev cc2_sem5_0 : DmaSem sig := 28
abbrev cc2_sem5_1 : DmaSem sig := 29
abbrev cc2_sem6_0 : DmaSem sig := 30
abbrev cc2_sem6_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem2_1 : DmaSem sig := 37
abbrev cc3_sem3_0 : DmaSem sig := 38
abbrev cc3_sem3_1 : DmaSem sig := 39
abbrev cc3_sem4_0 : DmaSem sig := 40
abbrev cc3_sem4_1 : DmaSem sig := 41

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v186 : BitVec 1 := Scalar.cmpi .eq arg1 c7_i32
  let v187 : BitVec 32 := Scalar.extui v186
  let c0_i32_92 : BitVec 32 := 0#32
  let v188 : BitVec 1 := Scalar.cmpi .ne v187 c0_i32_92
  v188

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x4 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x4 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S512x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨2, ![8, 8], ![false, false]⟩

def k3_cond2 (i : grid3.Coords) : BitVec 1 :=
  let arg1 : BitVec 32 := BitVec.ofNat 32 (i 1).val
  let c7_i32 : BitVec 32 := 7#32
  let v51 : BitVec 1 := Scalar.cmpi .eq arg1 c7_i32
  let v52 : BitVec 32 := Scalar.extui v51
  let c0_i32_26 : BitVec 32 := 0#32
  let v53 : BitVec 1 := Scalar.cmpi .ne v52 c0_i32_26
  v53

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S512x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S512x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S512x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S512x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev stage3_4 : Fin 2 → Memref sig .tc .vmem S512x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]
-- ==== ReferenceIdeal.lean ====
abbrev S4096x256 : Shape := ⟨2, ![4096, 256]⟩
abbrev S4096x4096 : Shape := ⟨2, ![4096, 4096]⟩
abbrev S256x128 : Shape := ⟨2, ![256, 128]⟩
abbrev S256x1 : Shape := ⟨2, ![256, 1]⟩
abbrev S512x128 : Shape := ⟨2, ![512, 128]⟩
abbrev S4096x128 : Shape := ⟨2, ![4096, 128]⟩
abbrev S128x1 : Shape := ⟨2, ![128, 1]⟩
abbrev S4096x1 : Shape := ⟨2, ![4096, 1]⟩
abbrev S1x4096 : Shape := ⟨2, ![1, 4096]⟩
abbrev S_ : Shape := ⟨0, ![]⟩
abbrev S4096 : Shape := ⟨1, ![4096]⟩
abbrev S4096x512 : Shape := ⟨2, ![4096, 512]⟩

abbrev nBuf : Space → Nat
  | .hbm => 293
  | .vmem => 0
  | .smem => 0
  | _ => 0

abbrev hbmTy0_0 (i : Nat) : BufTy := match i % 128 with
  | 0 => ⟨S4096x256, .f32⟩
  | 1 => ⟨S4096x4096, .f32⟩
  | 2 => ⟨S256x128, .f32⟩
  | 3 => ⟨S256x1, .f32⟩
  | 4 => ⟨S256x128, .f32⟩
  | 5 => ⟨S256x1, .f32⟩
  | 6 => ⟨S256x128, .f32⟩
  | 7 => ⟨S256x1, .f32⟩
  | 8 => ⟨S256x128, .f32⟩
  | 9 => ⟨S256x1, .f32⟩
  | 10 => ⟨S512x128, .f32⟩
  | 11 => ⟨S256x1, .f32⟩
  | 12 => ⟨S4096x128, .f32⟩
  | 13 => ⟨S128x1, .f32⟩
  | 14 => ⟨S4096x1, .f32⟩
  | 15 => ⟨S128x1, .f32⟩
  | 16 => ⟨S4096x1, .f32⟩
  | 17 => ⟨S1x4096, .f32⟩
  | 18 => ⟨S4096x4096, .f32⟩
  | 19 => ⟨S4096x4096, .f32⟩
  | 20 => ⟨S4096x4096, .f32⟩
  | 21 => ⟨S_, .f32⟩
  | 22 => ⟨S_, .f32⟩
  | 23 => ⟨S4096x4096, .f32⟩
  | 24 => ⟨S4096x4096, .i1⟩
  | 25 => ⟨S_, .f32⟩
  | 26 => ⟨S4096x4096, .f32⟩
  | 27 => ⟨S4096x4096, .f32⟩
  | 28 => ⟨S4096x4096, .f32⟩
  | 29 => ⟨S_, .f32⟩
  | 30 => ⟨S4096x4096, .f32⟩
  | 31 => ⟨S4096x4096, .i1⟩
  | 32 => ⟨S_, .f32⟩
  | 33 => ⟨S4096x4096, .f32⟩
  | 34 => ⟨S4096x4096, .f32⟩
  | 35 => ⟨S_, .f32⟩
  | 36 => ⟨S4096, .f32⟩
  | 37 => ⟨S_, .f32⟩
  | 38 => ⟨S4096, .f32⟩
  | 39 => ⟨S4096, .f32⟩
  | 40 => ⟨S4096x1, .f32⟩
  | 41 => ⟨S4096x4096, .f32⟩
  | 42 => ⟨S4096x4096, .f32⟩
  | 43 => ⟨S4096x4096, .f32⟩
  | 44 => ⟨S_, .f32⟩
  | 45 => ⟨S4096, .f32⟩
  | 46 => ⟨S4096x1, .f32⟩
  | 47 => ⟨S4096x4096, .f32⟩
  | 48 => ⟨S4096x4096, .f32⟩
  | 49 => ⟨S4096x128, .f32⟩
  | 50 => ⟨S_, .f32⟩
  | 51 => ⟨S4096x128, .f32⟩
  | 52 => ⟨S4096x128, .i1⟩
  | 53 => ⟨S_, .f32⟩
  | 54 => ⟨S4096x128, .f32⟩
  | 55 => ⟨S4096x128, .i1⟩
  | 56 => ⟨S_, .f32⟩
  | 57 => ⟨S_, .f32⟩
  | 58 => ⟨S4096x128, .f32⟩
  | 59 => ⟨S4096x128, .f32⟩
  | 60 => ⟨S4096x128, .f32⟩
  | 61 => ⟨S_, .f32⟩
  | 62 => ⟨S4096x128, .f32⟩
  | 63 => ⟨S4096x128, .f32⟩
  | 64 => ⟨S4096x128, .f32⟩
  | 65 => ⟨S4096x128, .f32⟩
  | 66 => ⟨S128x1, .f32⟩
  | 67 => ⟨S4096x1, .f32⟩
  | 68 => ⟨S128x1, .f32⟩
  | 69 => ⟨S4096x1, .f32⟩
  | 70 => ⟨S1x4096, .f32⟩
  | 71 => ⟨S4096x4096, .f32⟩
  | 72 => ⟨S4096x4096, .f32⟩
  | 73 => ⟨S4096x4096, .f32⟩
  | 74 => ⟨S_, .f32⟩
  | 75 => ⟨S_, .f32⟩
  | 76 => ⟨S4096x4096, .f32⟩
  | 77 => ⟨S4096x4096, .i1⟩
  | 78 => ⟨S_, .f32⟩
  | 79 => ⟨S4096x4096, .f32⟩
  | 80 => ⟨S4096x4096, .f32⟩
  | 81 => ⟨S4096x4096, .f32⟩
  | 82 => ⟨S_, .f32⟩
  | 83 => ⟨S4096x4096, .f32⟩
  | 84 => ⟨S4096x4096, .i1⟩
  | 85 => ⟨S_, .f32⟩
  | 86 => ⟨S4096x4096, .f32⟩
  | 87 => ⟨S4096x4096, .f32⟩
  | 88 => ⟨S_, .f32⟩
  | 89 => ⟨S4096, .f32⟩
  | 90 => ⟨S_, .f32⟩
  | 91 => ⟨S4096, .f32⟩
  | 92 => ⟨S4096, .f32⟩
  | 93 => ⟨S4096x1, .f32⟩
  | 94 => ⟨S4096x4096, .f32⟩
  | 95 => ⟨S4096x4096, .f32⟩
  | 96 => ⟨S4096x4096, .f32⟩
  | 97 => ⟨S_, .f32⟩
  | 98 => ⟨S4096, .f32⟩
  | 99 => ⟨S4096x1, .f32⟩
  | 100 => ⟨S4096x4096, .f32⟩
  | 101 => ⟨S4096x4096, .f32⟩
  | 102 => ⟨S4096x128, .f32⟩
  | 103 => ⟨S_, .f32⟩
  | 104 => ⟨S4096x128, .f32⟩
  | 105 => ⟨S4096x128, .i1⟩
  | 106 => ⟨S_, .f32⟩
  | 107 => ⟨S4096x128, .f32⟩
  | 108 => ⟨S4096x128, .i1⟩
  | 109 => ⟨S_, .f32⟩
  | 110 => ⟨S_, .f32⟩
  | 111 => ⟨S4096x128, .f32⟩
  | 112 => ⟨S4096x128, .f32⟩
  | 113 => ⟨S4096x128, .f32⟩
  | 114 => ⟨S_, .f32⟩
  | 115 => ⟨S4096x128, .f32⟩
  | 116 => ⟨S4096x128, .f32⟩
  | 117 => ⟨S4096x128, .f32⟩
  | 118 => ⟨S4096x128, .f32⟩
  | 119 => ⟨S128x1, .f32⟩
  | 120 => ⟨S4096x1, .f32⟩
  | 121 => ⟨S128x1, .f32⟩
  | 122 => ⟨S4096x1, .f32⟩
  | 123 => ⟨S1x4096, .f32⟩
  | 124 => ⟨S4096x4096, .f32⟩
  | 125 => ⟨S4096x4096, .f32⟩
  | 126 => ⟨S4096x4096, .f32⟩
  | 127 => ⟨S_, .f32⟩
  | _ => ⟨S4096x256, .f32⟩

abbrev hbmTy0_1 (i : Nat) : BufTy := match i % 128 with
  | 0 => ⟨S_, .f32⟩
  | 1 => ⟨S4096x4096, .f32⟩
  | 2 => ⟨S4096x4096, .i1⟩
  | 3 => ⟨S_, .f32⟩
  | 4 => ⟨S4096x4096, .f32⟩
  | 5 => ⟨S4096x4096, .f32⟩
  | 6 => ⟨S4096x4096, .f32⟩
  | 7 => ⟨S_, .f32⟩
  | 8 => ⟨S4096x4096, .f32⟩
  | 9 => ⟨S4096x4096, .i1⟩
  | 10 => ⟨S_, .f32⟩
  | 11 => ⟨S4096x4096, .f32⟩
  | 12 => ⟨S4096x4096, .f32⟩
  | 13 => ⟨S_, .f32⟩
  | 14 => ⟨S4096, .f32⟩
  | 15 => ⟨S_, .f32⟩
  | 16 => ⟨S4096, .f32⟩
  | 17 => ⟨S4096, .f32⟩
  | 18 => ⟨S4096x1, .f32⟩
  | 19 => ⟨S4096x4096, .f32⟩
  | 20 => ⟨S4096x4096, .f32⟩
  | 21 => ⟨S4096x4096, .f32⟩
  | 22 => ⟨S_, .f32⟩
  | 23 => ⟨S4096, .f32⟩
  | 24 => ⟨S4096x1, .f32⟩
  | 25 => ⟨S4096x4096, .f32⟩
  | 26 => ⟨S4096x4096, .f32⟩
  | 27 => ⟨S4096x128, .f32⟩
  | 28 => ⟨S_, .f32⟩
  | 29 => ⟨S4096x128, .f32⟩
  | 30 => ⟨S4096x128, .i1⟩
  | 31 => ⟨S_, .f32⟩
  | 32 => ⟨S4096x128, .f32⟩
  | 33 => ⟨S4096x128, .i1⟩
  | 34 => ⟨S_, .f32⟩
  | 35 => ⟨S_, .f32⟩
  | 36 => ⟨S4096x128, .f32⟩
  | 37 => ⟨S4096x128, .f32⟩
  | 38 => ⟨S4096x128, .f32⟩
  | 39 => ⟨S_, .f32⟩
  | 40 => ⟨S4096x128, .f32⟩
  | 41 => ⟨S4096x128, .f32⟩
  | 42 => ⟨S4096x128, .f32⟩
  | 43 => ⟨S4096x128, .f32⟩
  | 44 => ⟨S128x1, .f32⟩
  | 45 => ⟨S4096x1, .f32⟩
  | 46 => ⟨S128x1, .f32⟩
  | 47 => ⟨S4096x1, .f32⟩
  | 48 => ⟨S1x4096, .f32⟩
  | 49 => ⟨S4096x4096, .f32⟩
  | 50 => ⟨S4096x4096, .f32⟩
  | 51 => ⟨S4096x4096, .f32⟩
  | 52 => ⟨S_, .f32⟩
  | 53 => ⟨S_, .f32⟩
  | 54 => ⟨S4096x4096, .f32⟩
  | 55 => ⟨S4096x4096, .i1⟩
  | 56 => ⟨S_, .f32⟩
  | 57 => ⟨S4096x4096, .f32⟩
  | 58 => ⟨S4096x4096, .f32⟩
  | 59 => ⟨S4096x4096, .f32⟩
  | 60 => ⟨S_, .f32⟩
  | 61 => ⟨S4096x4096, .f32⟩
  | 62 => ⟨S4096x4096, .i1⟩
  | 63 => ⟨S_, .f32⟩
  | 64 => ⟨S4096x4096, .f32⟩
  | 65 => ⟨S4096x4096, .f32⟩
  | 66 => ⟨S_, .f32⟩
  | 67 => ⟨S4096, .f32⟩
  | 68 => ⟨S_, .f32⟩
  | 69 => ⟨S4096, .f32⟩
  | 70 => ⟨S4096, .f32⟩
  | 71 => ⟨S4096x1, .f32⟩
  | 72 => ⟨S4096x4096, .f32⟩
  | 73 => ⟨S4096x4096, .f32⟩
  | 74 => ⟨S4096x4096, .f32⟩
  | 75 => ⟨S_, .f32⟩
  | 76 => ⟨S4096, .f32⟩
  | 77 => ⟨S4096x1, .f32⟩
  | 78 => ⟨S4096x4096, .f32⟩
  | 79 => ⟨S4096x4096, .f32⟩
  | 80 => ⟨S4096x128, .f32⟩
  | 81 => ⟨S_, .f32⟩
  | 82 => ⟨S4096x128, .f32⟩
  | 83 => ⟨S4096x128, .i1⟩
  | 84 => ⟨S_, .f32⟩
  | 85 => ⟨S4096x128, .f32⟩
  | 86 => ⟨S4096x128, .i1⟩
  | 87 => ⟨S_, .f32⟩
  | 88 => ⟨S_, .f32⟩
  | 89 => ⟨S4096x128, .f32⟩
  | 90 => ⟨S4096x128, .f32⟩
  | 91 => ⟨S4096x128, .f32⟩
  | 92 => ⟨S_, .f32⟩
  | 93 => ⟨S4096x128, .f32⟩
  | 94 => ⟨S4096x128, .f32⟩
  | 95 => ⟨S4096x128, .f32⟩
  | 96 => ⟨S4096x512, .f32⟩
  | 97 => ⟨S4096x128, .f32⟩
  | 98 => ⟨S128x1, .f32⟩
  | 99 => ⟨S4096x1, .f32⟩
  | 100 => ⟨S128x1, .f32⟩
  | 101 => ⟨S4096x1, .f32⟩
  | 102 => ⟨S1x4096, .f32⟩
  | 103 => ⟨S4096x4096, .f32⟩
  | 104 => ⟨S4096x4096, .f32⟩
  | 105 => ⟨S4096x4096, .f32⟩
  | 106 => ⟨S_, .f32⟩
  | 107 => ⟨S_, .f32⟩
  | 108 => ⟨S4096x4096, .f32⟩
  | 109 => ⟨S4096x4096, .i1⟩
  | 110 => ⟨S_, .f32⟩
  | 111 => ⟨S4096x4096, .f32⟩
  | 112 => ⟨S4096x4096, .f32⟩
  | 113 => ⟨S4096x4096, .f32⟩
  | 114 => ⟨S_, .f32⟩
  | 115 => ⟨S4096x4096, .f32⟩
  | 116 => ⟨S4096x4096, .i1⟩
  | 117 => ⟨S_, .f32⟩
  | 118 => ⟨S4096x4096, .f32⟩
  | 119 => ⟨S4096x4096, .f32⟩
  | 120 => ⟨S_, .f32⟩
  | 121 => ⟨S4096, .f32⟩
  | 122 => ⟨S_, .f32⟩
  | 123 => ⟨S4096, .f32⟩
  | 124 => ⟨S4096, .f32⟩
  | 125 => ⟨S4096x1, .f32⟩
  | 126 => ⟨S4096x4096, .f32⟩
  | 127 => ⟨S4096x4096, .f32⟩
  | _ => ⟨S4096x256, .f32⟩

abbrev hbmTy0_2 (i : Nat) : BufTy := match i % 128 with
  | 0 => ⟨S4096x4096, .f32⟩
  | 1 => ⟨S_, .f32⟩
  | 2 => ⟨S4096, .f32⟩
  | 3 => ⟨S4096x1, .f32⟩
  | 4 => ⟨S4096x4096, .f32⟩
  | 5 => ⟨S4096x4096, .f32⟩
  | 6 => ⟨S4096x128, .f32⟩
  | 7 => ⟨S_, .f32⟩
  | 8 => ⟨S4096x128, .f32⟩
  | 9 => ⟨S4096x128, .i1⟩
  | 10 => ⟨S_, .f32⟩
  | 11 => ⟨S4096x128, .f32⟩
  | 12 => ⟨S4096x128, .i1⟩
  | 13 => ⟨S_, .f32⟩
  | 14 => ⟨S_, .f32⟩
  | 15 => ⟨S4096x128, .f32⟩
  | 16 => ⟨S4096x128, .f32⟩
  | 17 => ⟨S4096x128, .f32⟩
  | 18 => ⟨S_, .f32⟩
  | 19 => ⟨S4096x128, .f32⟩
  | 20 => ⟨S4096x128, .f32⟩
  | 21 => ⟨S4096x128, .f32⟩
  | 22 => ⟨S_, .f32⟩
  | 23 => ⟨S4096, .f32⟩
  | 24 => ⟨S_, .f32⟩
  | 25 => ⟨S4096, .f32⟩
  | 26 => ⟨S4096, .f32⟩
  | 27 => ⟨S4096x1, .f32⟩
  | 28 => ⟨S4096x128, .f32⟩
  | 29 => ⟨S4096x128, .f32⟩
  | 30 => ⟨S4096x128, .f32⟩
  | 31 => ⟨S_, .f32⟩
  | 32 => ⟨S4096, .f32⟩
  | 33 => ⟨S4096x1, .f32⟩
  | 34 => ⟨S4096x1, .f32⟩
  | 35 => ⟨S4096x128, .f32⟩
  | 36 => ⟨S4096x128, .f32⟩
  | _ => ⟨S4096x256, .f32⟩

abbrev hbmTy (i : Nat) : BufTy := match i / 128 with
  | 0 => hbmTy0_0 i
  | 1 => hbmTy0_1 i
  | 2 => hbmTy0_2 i
  | _ => ⟨S4096x256, .f32⟩

abbrev bufTy : (tb : Table) → Fin (tcTables nBuf tb) → BufTy
  | .hbm, ⟨i, _⟩ => hbmTy i
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v9 : Ref sig .tc := ⟨.hbm, 28, rfl⟩
abbrev main_cst_0 : Ref sig .tc := ⟨.hbm, 29, rfl⟩
abbrev main_v10 : Ref sig .tc := ⟨.hbm, 30, rfl⟩
abbrev main_v11 : Ref sig .tc := ⟨.hbm, 31, rfl⟩
abbrev main_cst_1 : Ref sig .tc := ⟨.hbm, 32, rfl⟩
abbrev main_call1_v0 : Ref sig .tc := ⟨.hbm, 33, rfl⟩
abbrev main_v12 : Ref sig .tc := ⟨.hbm, 34, rfl⟩
abbrev main_cst_2 : Ref sig .tc := ⟨.hbm, 35, rfl⟩
abbrev main_v13 : Ref sig .tc := ⟨.hbm, 36, rfl⟩
abbrev main_cst_3 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst_4 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_call2_cst : Ref sig .tc := ⟨.hbm, 50, rfl⟩
abbrev main_call2_v0 : Ref sig .tc := ⟨.hbm, 51, rfl⟩
abbrev main_call2_v1 : Ref sig .tc := ⟨.hbm, 52, rfl⟩
abbrev main_call2_cst_0 : Ref sig .tc := ⟨.hbm, 53, rfl⟩
abbrev main_call2_v2 : Ref sig .tc := ⟨.hbm, 54, rfl⟩
abbrev main_call2_v3 : Ref sig .tc := ⟨.hbm, 55, rfl⟩
abbrev main_call2_cst_1 : Ref sig .tc := ⟨.hbm, 56, rfl⟩
abbrev main_call2_call0_v0 : Ref sig .tc := ⟨.hbm, 57, rfl⟩
abbrev main_call2_call0_v1 : Ref sig .tc := ⟨.hbm, 58, rfl⟩
abbrev main_call2_v4 : Ref sig .tc := ⟨.hbm, 59, rfl⟩
abbrev main_call2_v5 : Ref sig .tc := ⟨.hbm, 60, rfl⟩
abbrev main_call2_cst_2 : Ref sig .tc := ⟨.hbm, 61, rfl⟩
abbrev main_call2_v6 : Ref sig .tc := ⟨.hbm, 62, rfl⟩
abbrev main_call2_v7 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_cst_5 : Ref sig .tc := ⟨.hbm, 74, rfl⟩
abbrev main_call3_cst : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_v35 : Ref sig .tc := ⟨.hbm, 81, rfl⟩
abbrev main_cst_6 : Ref sig .tc := ⟨.hbm, 82, rfl⟩
abbrev main_v36 : Ref sig .tc := ⟨.hbm, 83, rfl⟩
abbrev main_v37 : Ref sig .tc := ⟨.hbm, 84, rfl⟩
abbrev main_cst_7 : Ref sig .tc := ⟨.hbm, 85, rfl⟩
abbrev main_call4_v0 : Ref sig .tc := ⟨.hbm, 86, rfl⟩
abbrev main_v38 : Ref sig .tc := ⟨.hbm, 87, rfl⟩
abbrev main_cst_8 : Ref sig .tc := ⟨.hbm, 88, rfl⟩
abbrev main_v39 : Ref sig .tc := ⟨.hbm, 89, rfl⟩
abbrev main_cst_9 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_cst_10 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_call5_cst : Ref sig .tc := ⟨.hbm, 103, rfl⟩
abbrev main_call5_v0 : Ref sig .tc := ⟨.hbm, 104, rfl⟩
abbrev main_call5_v1 : Ref sig .tc := ⟨.hbm, 105, rfl⟩
abbrev main_call5_cst_0 : Ref sig .tc := ⟨.hbm, 106, rfl⟩
abbrev main_call5_v2 : Ref sig .tc := ⟨.hbm, 107, rfl⟩
abbrev main_call5_v3 : Ref sig .tc := ⟨.hbm, 108, rfl⟩
abbrev main_call5_cst_1 : Ref sig .tc := ⟨.hbm, 109, rfl⟩
abbrev main_call5_call0_v0 : Ref sig .tc := ⟨.hbm, 110, rfl⟩
abbrev main_call5_call0_v1 : Ref sig .tc := ⟨.hbm, 111, rfl⟩
abbrev main_call5_v4 : Ref sig .tc := ⟨.hbm, 112, rfl⟩
abbrev main_call5_v5 : Ref sig .tc := ⟨.hbm, 113, rfl⟩
abbrev main_call5_cst_2 : Ref sig .tc := ⟨.hbm, 114, rfl⟩
abbrev main_call5_v6 : Ref sig .tc := ⟨.hbm, 115, rfl⟩
abbrev main_call5_v7 : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_v59 : Ref sig .tc := ⟨.hbm, 125, rfl⟩
abbrev main_v60 : Ref sig .tc := ⟨.hbm, 126, rfl⟩
abbrev main_cst_11 : Ref sig .tc := ⟨.hbm, 127, rfl⟩
abbrev main_call6_cst : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_call6_v3 : Ref sig .tc := ⟨.hbm, 132, rfl⟩
abbrev main_call6_v4 : Ref sig .tc := ⟨.hbm, 133, rfl⟩
abbrev main_v61 : Ref sig .tc := ⟨.hbm, 134, rfl⟩
abbrev main_cst_12 : Ref sig .tc := ⟨.hbm, 135, rfl⟩
abbrev main_v62 : Ref sig .tc := ⟨.hbm, 136, rfl⟩
abbrev main_v63 : Ref sig .tc := ⟨.hbm, 137, rfl⟩
abbrev main_cst_13 : Ref sig .tc := ⟨.hbm, 138, rfl⟩
abbrev main_call7_v0 : Ref sig .tc := ⟨.hbm, 139, rfl⟩
abbrev main_v64 : Ref sig .tc := ⟨.hbm, 140, rfl⟩
abbrev main_cst_14 : Ref sig .tc := ⟨.hbm, 141, rfl⟩
abbrev main_v65 : Ref sig .tc := ⟨.hbm, 142, rfl⟩
abbrev main_cst_15 : Ref sig .tc := ⟨.hbm, 143, rfl⟩
abbrev main_v66 : Ref sig .tc := ⟨.hbm, 144, rfl⟩
abbrev main_v67 : Ref sig .tc := ⟨.hbm, 145, rfl⟩
abbrev main_v68 : Ref sig .tc := ⟨.hbm, 146, rfl⟩
abbrev main_v69 : Ref sig .tc := ⟨.hbm, 147, rfl⟩
abbrev main_v70 : Ref sig .tc := ⟨.hbm, 148, rfl⟩
abbrev main_v71 : Ref sig .tc := ⟨.hbm, 149, rfl⟩
abbrev main_cst_16 : Ref sig .tc := ⟨.hbm, 150, rfl⟩
abbrev main_v72 : Ref sig .tc := ⟨.hbm, 151, rfl⟩
abbrev main_v73 : Ref sig .tc := ⟨.hbm, 152, rfl⟩
abbrev main_v74 : Ref sig .tc := ⟨.hbm, 153, rfl⟩
abbrev main_v75 : Ref sig .tc := ⟨.hbm, 154, rfl⟩
abbrev main_v76 : Ref sig .tc := ⟨.hbm, 155, rfl⟩
abbrev main_call8_cst : Ref sig .tc := ⟨.hbm, 156, rfl⟩
abbrev main_call8_v0 : Ref sig .tc := ⟨.hbm, 157, rfl⟩
abbrev main_call8_v1 : Ref sig .tc := ⟨.hbm, 158, rfl⟩
abbrev main_call8_cst_0 : Ref sig .tc := ⟨.hbm, 159, rfl⟩
abbrev main_call8_v2 : Ref sig .tc := ⟨.hbm, 160, rfl⟩
abbrev main_call8_v3 : Ref sig .tc := ⟨.hbm, 161, rfl⟩
abbrev main_call8_cst_1 : Ref sig .tc := ⟨.hbm, 162, rfl⟩
abbrev main_call8_call0_v0 : Ref sig .tc := ⟨.hbm, 163, rfl⟩
abbrev main_call8_call0_v1 : Ref sig .tc := ⟨.hbm, 164, rfl⟩
abbrev main_call8_v4 : Ref sig .tc := ⟨.hbm, 165, rfl⟩
abbrev main_call8_v5 : Ref sig .tc := ⟨.hbm, 166, rfl⟩
abbrev main_call8_cst_2 : Ref sig .tc := ⟨.hbm, 167, rfl⟩
abbrev main_call8_v6 : Ref sig .tc := ⟨.hbm, 168, rfl⟩
abbrev main_call8_v7 : Ref sig .tc := ⟨.hbm, 169, rfl⟩
abbrev main_v77 : Ref sig .tc := ⟨.hbm, 170, rfl⟩
abbrev main_v78 : Ref sig .tc := ⟨.hbm, 171, rfl⟩
abbrev main_v79 : Ref sig .tc := ⟨.hbm, 172, rfl⟩
abbrev main_v80 : Ref sig .tc := ⟨.hbm, 173, rfl⟩
abbrev main_v81 : Ref sig .tc := ⟨.hbm, 174, rfl⟩
abbrev main_v82 : Ref sig .tc := ⟨.hbm, 175, rfl⟩
abbrev main_v83 : Ref sig .tc := ⟨.hbm, 176, rfl⟩
abbrev main_v84 : Ref sig .tc := ⟨.hbm, 177, rfl⟩
abbrev main_v85 : Ref sig .tc := ⟨.hbm, 178, rfl⟩
abbrev main_v86 : Ref sig .tc := ⟨.hbm, 179, rfl⟩
abbrev main_cst_17 : Ref sig .tc := ⟨.hbm, 180, rfl⟩
abbrev main_call9_cst : Ref sig .tc := ⟨.hbm, 181, rfl⟩
abbrev main_call9_v0 : Ref sig .tc := ⟨.hbm, 182, rfl⟩
abbrev main_call9_v1 : Ref sig .tc := ⟨.hbm, 183, rfl⟩
abbrev main_call9_v2 : Ref sig .tc := ⟨.hbm, 184, rfl⟩
abbrev main_call9_v3 : Ref sig .tc := ⟨.hbm, 185, rfl⟩
abbrev main_call9_v4 : Ref sig .tc := ⟨.hbm, 186, rfl⟩
abbrev main_v87 : Ref sig .tc := ⟨.hbm, 187, rfl⟩
abbrev main_cst_18 : Ref sig .tc := ⟨.hbm, 188, rfl⟩
abbrev main_v88 : Ref sig .tc := ⟨.hbm, 189, rfl⟩
abbrev main_v89 : Ref sig .tc := ⟨.hbm, 190, rfl⟩
abbrev main_cst_19 : Ref sig .tc := ⟨.hbm, 191, rfl⟩
abbrev main_call10_v0 : Ref sig .tc := ⟨.hbm, 192, rfl⟩
abbrev main_v90 : Ref sig .tc := ⟨.hbm, 193, rfl⟩
abbrev main_cst_20 : Ref sig .tc := ⟨.hbm, 194, rfl⟩
abbrev main_v91 : Ref sig .tc := ⟨.hbm, 195, rfl⟩
abbrev main_cst_21 : Ref sig .tc := ⟨.hbm, 196, rfl⟩
abbrev main_v92 : Ref sig .tc := ⟨.hbm, 197, rfl⟩
abbrev main_v93 : Ref sig .tc := ⟨.hbm, 198, rfl⟩
abbrev main_v94 : Ref sig .tc := ⟨.hbm, 199, rfl⟩
abbrev main_v95 : Ref sig .tc := ⟨.hbm, 200, rfl⟩
abbrev main_v96 : Ref sig .tc := ⟨.hbm, 201, rfl⟩
abbrev main_v97 : Ref sig .tc := ⟨.hbm, 202, rfl⟩
abbrev main_cst_22 : Ref sig .tc := ⟨.hbm, 203, rfl⟩
abbrev main_v98 : Ref sig .tc := ⟨.hbm, 204, rfl⟩
abbrev main_v99 : Ref sig .tc := ⟨.hbm, 205, rfl⟩
abbrev main_v100 : Ref sig .tc := ⟨.hbm, 206, rfl⟩
abbrev main_v101 : Ref sig .tc := ⟨.hbm, 207, rfl⟩
abbrev main_v102 : Ref sig .tc := ⟨.hbm, 208, rfl⟩
abbrev main_call11_cst : Ref sig .tc := ⟨.hbm, 209, rfl⟩
abbrev main_call11_v0 : Ref sig .tc := ⟨.hbm, 210, rfl⟩
abbrev main_call11_v1 : Ref sig .tc := ⟨.hbm, 211, rfl⟩
abbrev main_call11_cst_0 : Ref sig .tc := ⟨.hbm, 212, rfl⟩
abbrev main_call11_v2 : Ref sig .tc := ⟨.hbm, 213, rfl⟩
abbrev main_call11_v3 : Ref sig .tc := ⟨.hbm, 214, rfl⟩
abbrev main_call11_cst_1 : Ref sig .tc := ⟨.hbm, 215, rfl⟩
abbrev main_call11_call0_v0 : Ref sig .tc := ⟨.hbm, 216, rfl⟩
abbrev main_call11_call0_v1 : Ref sig .tc := ⟨.hbm, 217, rfl⟩
abbrev main_call11_v4 : Ref sig .tc := ⟨.hbm, 218, rfl⟩
abbrev main_call11_v5 : Ref sig .tc := ⟨.hbm, 219, rfl⟩
abbrev main_call11_cst_2 : Ref sig .tc := ⟨.hbm, 220, rfl⟩
abbrev main_call11_v6 : Ref sig .tc := ⟨.hbm, 221, rfl⟩
abbrev main_call11_v7 : Ref sig .tc := ⟨.hbm, 222, rfl⟩
abbrev main_v103 : Ref sig .tc := ⟨.hbm, 223, rfl⟩
abbrev main_v104 : Ref sig .tc := ⟨.hbm, 224, rfl⟩
abbrev main_v105 : Ref sig .tc := ⟨.hbm, 225, rfl⟩
abbrev main_v106 : Ref sig .tc := ⟨.hbm, 226, rfl⟩
abbrev main_v107 : Ref sig .tc := ⟨.hbm, 227, rfl⟩
abbrev main_v108 : Ref sig .tc := ⟨.hbm, 228, rfl⟩
abbrev main_v109 : Ref sig .tc := ⟨.hbm, 229, rfl⟩
abbrev main_v110 : Ref sig .tc := ⟨.hbm, 230, rfl⟩
abbrev main_v111 : Ref sig .tc := ⟨.hbm, 231, rfl⟩
abbrev main_v112 : Ref sig .tc := ⟨.hbm, 232, rfl⟩
abbrev main_v113 : Ref sig .tc := ⟨.hbm, 233, rfl⟩
abbrev main_cst_23 : Ref sig .tc := ⟨.hbm, 234, rfl⟩
abbrev main_call12_cst : Ref sig .tc := ⟨.hbm, 235, rfl⟩
abbrev main_call12_v0 : Ref sig .tc := ⟨.hbm, 236, rfl⟩
abbrev main_call12_v1 : Ref sig .tc := ⟨.hbm, 237, rfl⟩
abbrev main_call12_v2 : Ref sig .tc := ⟨.hbm, 238, rfl⟩
abbrev main_call12_v3 : Ref sig .tc := ⟨.hbm, 239, rfl⟩
abbrev main_call12_v4 : Ref sig .tc := ⟨.hbm, 240, rfl⟩
abbrev main_v114 : Ref sig .tc := ⟨.hbm, 241, rfl⟩
abbrev main_cst_24 : Ref sig .tc := ⟨.hbm, 242, rfl⟩
abbrev main_v115 : Ref sig .tc := ⟨.hbm, 243, rfl⟩
abbrev main_v116 : Ref sig .tc := ⟨.hbm, 244, rfl⟩
abbrev main_cst_25 : Ref sig .tc := ⟨.hbm, 245, rfl⟩
abbrev main_call13_v0 : Ref sig .tc := ⟨.hbm, 246, rfl⟩
abbrev main_v117 : Ref sig .tc := ⟨.hbm, 247, rfl⟩
abbrev main_cst_26 : Ref sig .tc := ⟨.hbm, 248, rfl⟩
abbrev main_v118 : Ref sig .tc := ⟨.hbm, 249, rfl⟩
abbrev main_cst_27 : Ref sig .tc := ⟨.hbm, 250, rfl⟩
abbrev main_v119 : Ref sig .tc := ⟨.hbm, 251, rfl⟩
abbrev main_v120 : Ref sig .tc := ⟨.hbm, 252, rfl⟩
abbrev main_v121 : Ref sig .tc := ⟨.hbm, 253, rfl⟩
abbrev main_v122 : Ref sig .tc := ⟨.hbm, 254, rfl⟩
abbrev main_v123 : Ref sig .tc := ⟨.hbm, 255, rfl⟩
abbrev main_v124 : Ref sig .tc := ⟨.hbm, 256, rfl⟩
abbrev main_cst_28 : Ref sig .tc := ⟨.hbm, 257, rfl⟩
abbrev main_v125 : Ref sig .tc := ⟨.hbm, 258, rfl⟩
abbrev main_v126 : Ref sig .tc := ⟨.hbm, 259, rfl⟩
abbrev main_v127 : Ref sig .tc := ⟨.hbm, 260, rfl⟩
abbrev main_v128 : Ref sig .tc := ⟨.hbm, 261, rfl⟩
abbrev main_v129 : Ref sig .tc := ⟨.hbm, 262, rfl⟩
abbrev main_call14_cst : Ref sig .tc := ⟨.hbm, 263, rfl⟩
abbrev main_call14_v0 : Ref sig .tc := ⟨.hbm, 264, rfl⟩
abbrev main_call14_v1 : Ref sig .tc := ⟨.hbm, 265, rfl⟩
abbrev main_call14_cst_0 : Ref sig .tc := ⟨.hbm, 266, rfl⟩
abbrev main_call14_v2 : Ref sig .tc := ⟨.hbm, 267, rfl⟩
abbrev main_call14_v3 : Ref sig .tc := ⟨.hbm, 268, rfl⟩
abbrev main_call14_cst_1 : Ref sig .tc := ⟨.hbm, 269, rfl⟩
abbrev main_call14_call0_v0 : Ref sig .tc := ⟨.hbm, 270, rfl⟩
abbrev main_call14_call0_v1 : Ref sig .tc := ⟨.hbm, 271, rfl⟩
abbrev main_call14_v4 : Ref sig .tc := ⟨.hbm, 272, rfl⟩
abbrev main_call14_v5 : Ref sig .tc := ⟨.hbm, 273, rfl⟩
abbrev main_call14_cst_2 : Ref sig .tc := ⟨.hbm, 274, rfl⟩
abbrev main_call14_v6 : Ref sig .tc := ⟨.hbm, 275, rfl⟩
abbrev main_call14_v7 : Ref sig .tc := ⟨.hbm, 276, rfl⟩
abbrev main_v130 : Ref sig .tc := ⟨.hbm, 277, rfl⟩
abbrev main_call15_cst : Ref sig .tc := ⟨.hbm, 278, rfl⟩
abbrev main_call15_v0 : Ref sig .tc := ⟨.hbm, 279, rfl⟩
abbrev main_call15_cst_0 : Ref sig .tc := ⟨.hbm, 280, rfl⟩
abbrev main_call15_v1 : Ref sig .tc := ⟨.hbm, 281, rfl⟩
abbrev main_call15_v2 : Ref sig .tc := ⟨.hbm, 282, rfl⟩
abbrev main_call15_v3 : Ref sig .tc := ⟨.hbm, 283, rfl⟩
abbrev main_call15_v4 : Ref sig .tc := ⟨.hbm, 284, rfl⟩
abbrev main_call15_v5 : Ref sig .tc := ⟨.hbm, 285, rfl⟩
abbrev main_call15_v6 : Ref sig .tc := ⟨.hbm, 286, rfl⟩
abbrev main_call15_cst_1 : Ref sig .tc := ⟨.hbm, 287, rfl⟩
abbrev main_call15_v7 : Ref sig .tc := ⟨.hbm, 288, rfl⟩
abbrev main_call15_v8 : Ref sig .tc := ⟨.hbm, 289, rfl⟩
abbrev main_call15_v9 : Ref sig .tc := ⟨.hbm, 290, rfl⟩
abbrev main_call15_v10 : Ref sig .tc := ⟨.hbm, 291, rfl⟩
abbrev main_v131 : Ref sig .tc := ⟨.hbm, 292, rfl⟩

abbrev nD : Nat := 1
abbrev τ : Topo := Topo.v7x

variable {F : FTy → Type} [FloatOps F]
-- ==== Proof.Gat.Head.lean ====
/- One block of the streaming softmax as a function of what it carries: the running maximum, the running sum and the running weighted sum of one head, and
   how one block of 512 columns moves them. The second attention layer has one head; the first has four, laid side by side in the same buffers. -/
module

public import proofs.«01_k».proof.Proof.Gen.KernelIdeal.Skeleton
public import Idealize.ShloMosaic.Lib.Pipeline.FrameBody

@[expose] public section

set_option maxRecDepth 16384

noncomputable section

namespace Cert.KernelIdeal.Gat

open Idealize.ShloMosaic Idealize.ShloMosaic.TcCoe Cert.KernelIdeal Cert.KernelIdeal.Gen

variable {F : FTy → Type} [FloatOps F]

/-- The running maximum of one head after a block: `a` the block of the adjacency matrix, `s` and `d` the two halves of the logits, `mo` the maximum so far. -/
def mNew (a : Vec F S512x512 .f32) (s d mo : Vec F S512x1 .f32) : Vec F S512x1 .f32 := k3_pay11 a s d mo

/-- The running sum of exponentials of one head after a block. -/
def lNew (a : Vec F S512x512 .f32) (s d mo lo : Vec F S512x1 .f32) : Vec F S512x1 .f32 := k3_pay1 (k3_pay12 a s d mo lo) (k3_pay13 a s d mo)

/-- The running weighted sum of one head after a block, `w` the block of the projected features. -/
def aNew (a : Vec F S512x512 .f32) (s d mo : Vec F S512x1 .f32) (ao w : Vec F S512x128 .f32) : Vec F S512x128 .f32 :=
  k3_pay2 (k3_pay9 a s d mo) (k3_pay10 a s d mo) ao w

/-! ## The second layer: one head -/

/-- What the second layer carries from block to block: maximum, sum, weighted sum. -/
abbrev St3 (F : FTy → Type) := Vec F S512x1 .f32 × Vec F S512x1 .f32 × Vec F S512x128 .f32

/-- The state a row block starts from. -/
def init3 : St3 F := (k3_pay4, k3_pay5, k3_pay6)

/-- The state after one more block. -/
def step3 (x0 : Vec F S512x512 .f32) (x1 x2 : Vec F S512x1 .f32) (x3 : Vec F S512x128 .f32) (s : St3 F) : St3 F :=
  (mNew x0 x1 x2 s.1, lNew x0 x1 x2 s.1 s.2.1, aNew x0 x1 x2 s.1 s.2.2 x3)

/-- What the last block of a row writes out. -/
def out3 (s : St3 F) : Vec F S512x128 .f32 := k3_pay3 s.2.2 s.2.1

/-! ## The first layer: four heads side by side -/

/-- Column `h` of a 512 by 4 buffer. -/
abbrev rC (h : Fin 4) : Rect S512x4 := Rect.unit (s := S512x4) ![0, h.val] S512x1.size (by intro a; fin_cases h <;> fin_cases a <;> decide)

/-- The 128 columns of head `h` in a 512 by 512 buffer. -/
abbrev rH (h : Fin 4) : Rect S512x512 := Rect.unit (s := S512x512) ![0, 128 * h.val] S512x128.size (by intro a; fin_cases h <;> fin_cases a <;> decide)

/-- What the first layer carries from block to block: maxima, sums, weighted sums of the four heads. -/
abbrev St1 (F : FTy → Type) := Vec F S512x4 .f32 × Vec F S512x4 .f32 × Vec F S512x512 .f32

/-- Four columns laid side by side, the last written first in the list. -/
def cols (g : Fin 4 → Vec F S512x1 .f32) : Vec F S512x4 .f32 :=
  View.canon (Val := Elt F) [⟨rC 3, g 3⟩, ⟨rC 2, g 2⟩, ⟨rC 1, g 1⟩, ⟨rC 0, g 0⟩]

/-- Four blocks of 128 columns laid side by side. -/
def heads (g : Fin 4 → Vec F S512x128 .f32) : Vec F S512x512 .f32 :=
  View.canon (Val := Elt F) [⟨rH 3, g 3⟩, ⟨rH 2, g 2⟩, ⟨rH 1, g 1⟩, ⟨rH 0, g 0⟩]

/-- The state a row block starts from. -/
def init1 : St1 F := (k1_pay6, k1_pay7, k1_pay8)

/-- The state after one more block: each head moves on its own columns. -/
def step1 (x0 : Vec F S512x512 .f32) (x1 x2 : Vec F S512x4 .f32) (x3 : Vec F S512x512 .f32) (s : St1 F) : St1 F :=
  (cols fun h => mNew x0 (View.ld x1 (rC h)) (View.ld x2 (rC h)) (View.ld s.1 (rC h)),
   cols fun h => lNew x0 (View.ld x1 (rC h)) (View.ld x2 (rC h)) (View.ld s.1 (rC h)) (View.ld s.2.1 (rC h)),
   heads fun h => aNew x0 (View.ld x1 (rC h)) (View.ld x2 (rC h)) (View.ld s.1 (rC h)) (View.ld s.2.2 (rH h)) (View.ld x3 (rH h)))

/-- What the last block of a row writes out: each head's quotient through the elu. -/
def out1 (s : St1 F) : Vec F S512x512 .f32 :=
  heads fun h => k1_pay3 (View.ld s.2.2 (rH h)) (View.ld s.2.1 (rC h))

/-- The offsets of a whole rank 2 buffer. -/
theorem z2 : ∀ a : Fin 2, (![0, 0] : Fin 2 → ℕ) a = 0 := by decide

end Cert.KernelIdeal.Gat

end
-- ==== Proof.Gat.Reg0.lean ====
/- Region 0 of the launch, a projection: what its body does and the proof data its pipeline runs with. -/
module

public import proofs.«01_k».proof.Proof.Gat.Head
public import proofs.«01_k».proof.Proof.Gen.KernelIdeal.Points
public import proofs.«01_k».proof.Proof.Gen.KernelIdeal.Launch
public import Idealize.ShloMosaic.Lib.Pipeline.ReadBack
public import Idealize.ShloMosaic.Lib.Pipeline.ValueKit.Acc
public import Idealize.ShloMosaic.Lib.Ring
public import Idealize.ShloMosaic.Lib.Tactic
public import Idealize.ShloMosaic.Lib.WordCmp

@[expose] public section

set_option maxRecDepth 16384

noncomputable section

namespace Cert.KernelIdeal.Gat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The projection's body on whole buffers: the inputs stay, and the outputs end at the three payloads. -/
theorem run0 (c : Dev nD) (E : Set ℕ) (i : grid0.Coords) (arg1 : Memref sig .tc .vmem S512x256 .f32) (harg1 : arg1.IsWhole) (arg2 : Memref sig .tc .vmem S256x512 .f32) (harg2 : arg2.IsWhole) (arg3 : Memref sig .tc .vmem S512x4 .f32) (harg3 : arg3.IsWhole) (arg4 : Memref sig .tc .vmem S512x4 .f32) (harg4 : arg4.IsWhole) (arg5 : Memref sig .tc .vmem S512x512 .f32) (harg5 : arg5.IsWhole) (arg6 : Memref sig .tc .vmem S512x4 .f32) (harg6 : arg6.IsWhole) (arg7 : Memref sig .tc .vmem S512x4 .f32) (harg7 : arg7.IsWhole)
    (x0 : Vec F S512x256 .f32) (x1 : Vec F S256x512 .f32) (x2 : Vec F S512x4 .f32) (x3 : Vec F S512x4 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay1 x0 x1) ∗ owns (c : Thread nD τ) arg6 fullShare (k0_pay2 x0 x1 x2) ∗ owns (c : Thread nD τ) arg7 fullShare (k0_pay3 x0 x1 x3)) -∗ K ⟨⟩))
      ⊢ wp frame (wpE (defs₀ (F := F)) Variants.none c none) E (cc0__project_body i arg1 harg1 arg2 harg2 arg3 harg3 arg4 harg4 arg5 harg5 arg6 harg6 arg7 harg7) K := by
  simp only [cc0__project_body_eq_skeleton]; unfold cc0__project_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (View.cover_of_tiled _ S512x512.size (by rfl)), View.canon_cons_unit_lit (S := S512x512) _ _ _ z2]
    simp only [View.readAt_eq_ld, View.ld_unit_lit (S := S256x512) _ _ z2, View.ld_unit_lit (S := S512x256) _ _ z2]
  isplitl [H5]
  · iexists _; isplitr
    swap; · iexact H5
    ipureintro
    rw [View.read_writes_eq_canon _ _ _ (View.cover_of_tiled _ S512x4.size (by rfl)), View.canon_cons_unit_lit (S := S512x4) _ _ _ z2]
    simp only [View.readAt_eq_ld, View.ld_unit_lit (S := S256x512) _ _ z2, View.ld_unit_lit (S := S512x256) _ _ z2, View.ld_unit_lit (S := S512x4) _ _ z2]
  · iexists _; isplitr
    swap; · iexact H6
    ipureintro
    rw [View.read_writes_eq_canon _ _ _ (View.cover_of_tiled _ S512x4.size (by rfl)), View.canon_cons_unit_lit (S := S512x4) _ _ _ z2]
    simp only [View.readAt_eq_ld, View.ld_unit_lit (S := S256x512) _ _ z2, View.ld_unit_lit (S := S512x256) _ _ z2, View.ld_unit_lit (S := S512x4) _ _ z2]

variable (V : Dev nD → Valuation τ sig (Elt F))

/-- The block of window `w` at point `t`, read off the contents the region is entered with. -/
def iblk0 (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The region's proof data: the arrays as it finds them, each output buffer at its payload of the blocks. -/
def dat0 (c : Dev nD) : Dat τ (Elt F) Unit ℕ (UR sig nD τ) ℕ cfg0 c where
  A w := V c (Proc.devRef .tc (Pipeline.arrRef spec0 w))
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (k0_pay1 (iblk0 V c 0 t) (iblk0 V c 1 t))
    | ⟨5, _⟩ => (k0_pay2 (iblk0 V c 0 t) (iblk0 V c 1 t) (iblk0 V c 2 t))
    | ⟨6, _⟩ => (k0_pay3 (iblk0 V c 0 t) (iblk0 V c 1 t) (iblk0 V c 3 t))
  Φ _ := Pipeline.ΦA spec0 c
  q _ := fullShare
  owed _ := 0

/-- The region's arrays are entered at `V`. -/
theorem A0_eq (c : Dev nD) (w : Fin cfg0.W) : (dat0 V c).A w = V c (Proc.devRef .tc (Pipeline.arrRef spec0 w)) := by
  dsimp only [dat0]

/-- What the body leaves in input window 0's buffer is its block, as it found it. -/
theorem after0_0 (c : Dev nD) (t : Fin cfg0.N) : (dat0 V c).after 0 t = iblk0 V c 0 t := by dsimp only [dat0]

/-- What the body leaves in input window 1's buffer is its block, as it found it. -/
theorem after0_1 (c : Dev nD) (t : Fin cfg0.N) : (dat0 V c).after 1 t = iblk0 V c 1 t := by dsimp only [dat0]

/-- What the body leaves in input window 2's buffer is its block, as it found it. -/
theorem after0_2 (c : Dev nD) (t : Fin cfg0.N) : (dat0 V c).after 2 t = iblk0 V c 2 t := by dsimp only [dat0]

/-- What the body leaves in input window 3's buffer is its block, as it found it. -/
theorem after0_3 (c : Dev nD) (t : Fin cfg0.N) : (dat0 V c).after 3 t = iblk0 V c 3 t := by dsimp only [dat0]

/-- Input window 0's buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A0_eq]; try rfl) t d).trans
      (by unfold Dat.fetched Dat.blockOf iblk0; rw [A0_eq]; try rfl)

/-- Input window 1's buffer holds its block at every point. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A0_eq]; try rfl) t d).trans
      (by unfold Dat.fetched Dat.blockOf iblk0; rw [A0_eq]; try rfl)

/-- Input window 2's buffer holds its block at every point. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A0_eq]; try rfl) t d).trans
      (by unfold Dat.fetched Dat.blockOf iblk0; rw [A0_eq]; try rfl)

/-- Input window 3's buffer holds its block at every point. -/
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A0_eq]; try rfl) t d).trans
      (by unfold Dat.fetched Dat.blockOf iblk0; rw [A0_eq]; try rfl)

/-- What the body leaves in output window 4's buffer. -/
theorem after0_4 (c : Dev nD) (t : Fin cfg0.N) : (dat0 V c).after 4 t = (k0_pay1 (iblk0 V c 0 t) (iblk0 V c 1 t)) := by dsimp only [dat0]

/-- What the body leaves in output window 5's buffer. -/
theorem after0_5 (c : Dev nD) (t : Fin cfg0.N) : (dat0 V c).after 5 t = (k0_pay2 (iblk0 V c 0 t) (iblk0 V c 1 t) (iblk0 V c 2 t)) := by dsimp only [dat0]

/-- What the body leaves in output window 6's buffer. -/
theorem after0_6 (c : Dev nD) (t : Fin cfg0.N) : (dat0 V c).after 6 t = (k0_pay3 (iblk0 V c 0 t) (iblk0 V c 1 t) (iblk0 V c 3 t)) := by dsimp only [dat0]

/-- What the body is called with at point `t`. -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- What it returns. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point. -/
theorem body0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (run0 c Set.univ (grid0.coords t) _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t` is the body at that point. -/
theorem row0 (t : Fin cfg0.N) :
    defs₀ (F := F) .tc cfg0.body (cfg0.bodyArgs t (cfg0.slots t)) = bodyAt0 t := by
  unfold defs₀; rw [Defs.onTc_tc]

/-- The body meets its obligation at every point. -/
theorem obligation0 (c : Dev nD) : BodyObligation (dat0 (F := F) V c) (defs₀ (F := F)) Variants.none () Set.univ := fun t => by
  rw [bigSep_W0, bigSep_W0, row0]
  exact triple_restated (body0 V c t) rfl .rfl fun _ => .rfl

end Cert.KernelIdeal.Gat

end
-- ==== Proof.Gat.Run3.lean ====
/- The second attention layer's body, run on whole buffers at each of its three kinds of block: what it leaves is the explicit state of Head.lean. -/
module

public import proofs.«01_k».proof.Proof.Gat.Head
public import proofs.«01_k».proof.Proof.Gen.KernelIdeal.Points
public import proofs.«01_k».proof.Proof.Gen.KernelIdeal.Launch
public import Idealize.ShloMosaic.Lib.Pipeline.ReadBack
public import Idealize.ShloMosaic.Lib.Pipeline.ValueKit.Acc
public import Idealize.ShloMosaic.Lib.Ring
public import Idealize.ShloMosaic.Lib.Tactic
public import Idealize.ShloMosaic.Lib.WordCmp

@[expose] public section

set_option maxRecDepth 16384

noncomputable section

namespace Cert.KernelIdeal.Gat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first block of a row of blocks. -/
abbrev cond3_0 (i : grid3.Coords) : Prop := (Scalar.cmpi .ne (Scalar.extui (Scalar.cmpi .eq (BitVec.ofNat 32 (i 1).val) 0#32)) 0#32) = 1#1

/-- The last block of a row of blocks. -/
abbrev cond3_1 (i : grid3.Coords) : Prop := k3_cond2 i = 1#1

/-- At the first block of a row the body starts from the initial state, whatever the carried buffers held, and leaves the state after one block. -/
theorem run3_A (c : Dev nD) (i : grid3.Coords) (arg2 : Memref sig .tc .vmem S512x512 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : cond3_0 i) (hc1 : ¬cond3_1 i)
    (x0 : Vec F S512x512 .f32) (x1 : Vec F S512x1 .f32) (x2 : Vec F S512x1 .f32) (x3 : Vec F S512x128 .f32) (x4 : Vec F S512x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (step3 x0 x1 x2 x3 init3).1 ∗ owns (c : Thread nD τ) arg8 fullShare (step3 x0 x1 x2 x3 init3).2.1 ∗ owns (c : Thread nD τ) arg9 fullShare (step3 x0 x1 x2 x3 init3).2.2) -∗ K ⟨⟩))
      ⊢ wp frame (wpE (defs₀ (F := F)) Variants.none c none) E (cc3__flash_body i arg2 harg2 arg3 harg3 arg4 harg4 arg5 harg5 arg6 harg6 arg7 harg7 arg8 harg8 arg9 harg9) K := by
  simp only [cc3__flash_body_eq_skeleton]; unfold cc3__flash_body_skel
  simp only [k3_part1_eq_skeleton]
  unfold owns
  iintro ⟨⟨%f0, %h0, H0⟩, ⟨%f1, %h1, H1⟩, ⟨%f2, %h2, H2⟩, ⟨%f3, %h3, H3⟩, ⟨%f4, %h4, H4⟩, ⟨%d0, %fs0, -, S0⟩, ⟨%d1, %fs1, -, S1⟩, ⟨%d2, %fs2, -, S2⟩, Hk⟩
  subst h0 h1 h2 h3
  subst h4
  sl_exec (disch := first | sl_exact hc0 | sl_exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [S0]
  · iexists _; isplitr; swap; · iexact S0
    ipureintro
    rw [View.read_writes_eq_canon _ _ _ (View.cover_of_tiled _ ![512, 1] (by rfl))]
    repeat delta run3_A.sl.S0_1 run3_A.sl.S1_1 run3_A.sl.S2_1 run3_A.sl.v21 run3_A.sl.v33 run3_A.sl.v41 run3_A.sl.r run3_A.sl.r_1 run3_A.sl.r_2 run3_A.sl.r_3
    simp only [View.canon_cons_unit_lit (S := S512x1) inb_S512x1_S512x1_0_0 _ _ z2, View.canon_cons_unit_lit (S := S512x128) inb_S512x128_S512x128_0_0 _ _ z2, View.readAt_eq_ld, View.readCov_fill (s := S512x1) _ inb_S512x1_S512x1_0_0 _ _ _ z2, View.readCov_fill (s := S512x128) _ inb_S512x128_S512x128_0_0 _ _ _ z2, View.ld_unit_lit (S := S512x1) inb_S512x1_S512x1_0_0 _ z2, View.ld_unit_lit (S := S512x128) inb_S512x128_S512x128_0_0 _ z2, View.ld_unit_lit (S := S512x512) inb_S512x512_S512x512_0_0 _ z2]
    rfl
  isplitl [S1]
  · iexists _; isplitr; swap; · iexact S1
    ipureintro
    rw [View.read_writes_eq_canon _ _ _ (View.cover_of_tiled _ ![512, 1] (by rfl))]
    repeat delta run3_A.sl.S0_1 run3_A.sl.S1_1 run3_A.sl.S2_1 run3_A.sl.v21 run3_A.sl.v33 run3_A.sl.v41 run3_A.sl.r run3_A.sl.r_1 run3_A.sl.r_2 run3_A.sl.r_3
    simp only [View.canon_cons_unit_lit (S := S512x1) inb_S512x1_S512x1_0_0 _ _ z2, View.canon_cons_unit_lit (S := S512x128) inb_S512x128_S512x128_0_0 _ _ z2, View.readAt_eq_ld, View.readCov_fill (s := S512x1) _ inb_S512x1_S512x1_0_0 _ _ _ z2, View.readCov_fill (s := S512x128) _ inb_S512x128_S512x128_0_0 _ _ _ z2, View.ld_unit_lit (S := S512x1) inb_S512x1_S512x1_0_0 _ z2, View.ld_unit_lit (S := S512x128) inb_S512x128_S512x128_0_0 _ z2, View.ld_unit_lit (S := S512x512) inb_S512x512_S512x512_0_0 _ z2]
    rfl
  · iexists _; isplitr; swap; · iexact S2
    ipureintro
    rw [View.read_writes_eq_canon _ _ _ (View.cover_of_tiled _ ![512, 128] (by rfl))]
    repeat delta run3_A.sl.S0_1 run3_A.sl.S1_1 run3_A.sl.S2_1 run3_A.sl.v21 run3_A.sl.v33 run3_A.sl.v41 run3_A.sl.r run3_A.sl.r_1 run3_A.sl.r_2 run3_A.sl.r_3
    simp only [View.canon_cons_unit_lit (S := S512x1) inb_S512x1_S512x1_0_0 _ _ z2, View.canon_cons_unit_lit (S := S512x128) inb_S512x128_S512x128_0_0 _ _ z2, View.readAt_eq_ld, View.readCov_fill (s := S512x1) _ inb_S512x1_S512x1_0_0 _ _ _ z2, View.readCov_fill (s := S512x128) _ inb_S512x128_S512x128_0_0 _ _ _ z2, View.ld_unit_lit (S := S512x1) inb_S512x1_S512x1_0_0 _ z2, View.ld_unit_lit (S := S512x128) inb_S512x128_S512x128_0_0 _ z2, View.ld_unit_lit (S := S512x512) inb_S512x512_S512x512_0_0 _ z2]
    rfl

/-- At a middle block the body moves the carried state by one block and leaves the output buffer alone. -/
theorem run3_B (c : Dev nD) (i : grid3.Coords) (arg2 : Memref sig .tc .vmem S512x512 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : ¬cond3_0 i) (hc1 : ¬cond3_1 i)
    (x0 : Vec F S512x512 .f32) (x1 : Vec F S512x1 .f32) (x2 : Vec F S512x1 .f32) (x3 : Vec F S512x128 .f32) (x4 : Vec F S512x128 .f32) (s : St3 F) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare s.1 ∗ owns (c : Thread nD τ) arg8 fullShare s.2.1 ∗ owns (c : Thread nD τ) arg9 fullShare s.2.2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (step3 x0 x1 x2 x3 s).1 ∗ owns (c : Thread nD τ) arg8 fullShare (step3 x0 x1 x2 x3 s).2.1 ∗ owns (c : Thread nD τ) arg9 fullShare (step3 x0 x1 x2 x3 s).2.2) -∗ K ⟨⟩))
      ⊢ wp frame (wpE (defs₀ (F := F)) Variants.none c none) E (cc3__flash_body i arg2 harg2 arg3 harg3 arg4 harg4 arg5 harg5 arg6 harg6 arg7 harg7 arg8 harg8 arg9 harg9) K := by
  simp only [cc3__flash_body_eq_skeleton]; unfold cc3__flash_body_skel
  simp only [k3_part1_eq_skeleton]
  unfold owns
  iintro ⟨⟨%f0, %h0, H0⟩, ⟨%f1, %h1, H1⟩, ⟨%f2, %h2, H2⟩, ⟨%f3, %h3, H3⟩, ⟨%f4, %h4, H4⟩, ⟨%fs0, %hs0, S0⟩, ⟨%fs1, %hs1, S1⟩, ⟨%fs2, %hs2, S2⟩, Hk⟩
  obtain ⟨s0, s1, s2⟩ := s
  subst h0 h1 h2 h3
  subst h4
  dsimp only at hs0 hs1 hs2
  subst hs0 hs1 hs2
  sl_exec (disch := first | sl_exact hc0 | sl_exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [S0]
  · iexists _; isplitr; swap; · iexact S0
    ipureintro
    rw [View.read_writes_eq_canon _ _ _ (View.cover_of_tiled _ ![512, 1] (by rfl))]
    repeat delta run3_B.sl.r run3_B.sl.r_1 run3_B.sl.r_2 run3_B.sl.r_3
    simp only [View.canon_cons_unit_lit (S := S512x1) inb_S512x1_S512x1_0_0 _ _ z2, View.canon_cons_unit_lit (S := S512x128) inb_S512x128_S512x128_0_0 _ _ z2, View.readAt_eq_ld, View.readCov_fill (s := S512x1) _ inb_S512x1_S512x1_0_0 _ _ _ z2, View.readCov_fill (s := S512x128) _ inb_S512x128_S512x128_0_0 _ _ _ z2, View.ld_unit_lit (S := S512x1) inb_S512x1_S512x1_0_0 _ z2, View.ld_unit_lit (S := S512x128) inb_S512x128_S512x128_0_0 _ z2, View.ld_unit_lit (S := S512x512) inb_S512x512_S512x512_0_0 _ z2]
    rfl
  isplitl [S1]
  · iexists _; isplitr; swap; · iexact S1
    ipureintro
    rw [View.read_writes_eq_canon _ _ _ (View.cover_of_tiled _ ![512, 1] (by rfl))]
    repeat delta run3_B.sl.r run3_B.sl.r_1 run3_B.sl.r_2 run3_B.sl.r_3
    simp only [View.canon_cons_unit_lit (S := S512x1) inb_S512x1_S512x1_0_0 _ _ z2, View.canon_cons_unit_lit (S := S512x128) inb_S512x128_S512x128_0_0 _ _ z2, View.readAt_eq_ld, View.readCov_fill (s := S512x1) _ inb_S512x1_S512x1_0_0 _ _ _ z2, View.readCov_fill (s := S512x128) _ inb_S512x128_S512x128_0_0 _ _ _ z2, View.ld_unit_lit (S := S512x1) inb_S512x1_S512x1_0_0 _ z2, View.ld_unit_lit (S := S512x128) inb_S512x128_S512x128_0_0 _ z2, View.ld_unit_lit (S := S512x512) inb_S512x512_S512x512_0_0 _ z2]
    rfl
  · iexists _; isplitr; swap; · iexact S2
    ipureintro
    rw [View.read_writes_eq_canon _ _ _ (View.cover_of_tiled _ ![512, 128] (by rfl))]
    repeat delta run3_B.sl.r run3_B.sl.r_1 run3_B.sl.r_2 run3_B.sl.r_3
    simp only [View.canon_cons_unit_lit (S := S512x1) inb_S512x1_S512x1_0_0 _ _ z2, View.canon_cons_unit_lit (S := S512x128) inb_S512x128_S512x128_0_0 _ _ z2, View.readAt_eq_ld, View.readCov_fill (s := S512x1) _ inb_S512x1_S512x1_0_0 _ _ _ z2, View.readCov_fill (s := S512x128) _ inb_S512x128_S512x128_0_0 _ _ _ z2, View.ld_unit_lit (S := S512x1) inb_S512x1_S512x1_0_0 _ z2, View.ld_unit_lit (S := S512x128) inb_S512x128_S512x128_0_0 _ z2, View.ld_unit_lit (S := S512x512) inb_S512x512_S512x512_0_0 _ z2]
    rfl

/-- At the last block of a row the body moves the carried state by one block and writes out what it makes of it. -/
theorem run3_C (c : Dev nD) (i : grid3.Coords) (arg2 : Memref sig .tc .vmem S512x512 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (hc0 : ¬cond3_0 i) (hc1 : cond3_1 i)
    (x0 : Vec F S512x512 .f32) (x1 : Vec F S512x1 .f32) (x2 : Vec F S512x1 .f32) (x3 : Vec F S512x128 .f32) (s : St3 F) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare s.1 ∗ owns (c : Thread nD τ) arg8 fullShare s.2.1 ∗ owns (c : Thread nD τ) arg9 fullShare s.2.2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out3 (step3 x0 x1 x2 x3 s)) ∗ owns (c : Thread nD τ) arg7 fullShare (step3 x0 x1 x2 x3 s).1 ∗ owns (c : Thread nD τ) arg8 fullShare (step3 x0 x1 x2 x3 s).2.1 ∗ owns (c : Thread nD τ) arg9 fullShare (step3 x0 x1 x2 x3 s).2.2) -∗ K ⟨⟩))
      ⊢ wp frame (wpE (defs₀ (F := F)) Variants.none c none) E (cc3__flash_body i arg2 harg2 arg3 harg3 arg4 harg4 arg5 harg5 arg6 harg6 arg7 harg7 arg8 harg8 arg9 harg9) K := by
  simp only [cc3__flash_body_eq_skeleton]; unfold cc3__flash_body_skel
  simp only [k3_part1_eq_skeleton]
  unfold owns
  iintro ⟨⟨%f0, %h0, H0⟩, ⟨%f1, %h1, H1⟩, ⟨%f2, %h2, H2⟩, ⟨%f3, %h3, H3⟩, ⟨%d4, %f4, -, H4⟩, ⟨%fs0, %hs0, S0⟩, ⟨%fs1, %hs1, S1⟩, ⟨%fs2, %hs2, S2⟩, Hk⟩
  obtain ⟨s0, s1, s2⟩ := s
  subst h0 h1 h2 h3
  dsimp only at hs0 hs1 hs2
  subst hs0 hs1 hs2
  sl_exec (disch := first | sl_exact hc0 | sl_exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; swap; · iexact H4
    ipureintro
    rw [View.read_writes_eq_canon _ _ _ (View.cover_of_tiled _ ![512, 128] (by rfl))]
    repeat delta run3_C.sl.S1_1 run3_C.sl.S2_1 run3_C.sl.v54 run3_C.sl.v55 run3_C.sl.r run3_C.sl.r_1 run3_C.sl.r_2 run3_C.sl.r_3
    simp only [View.canon_cons_unit_lit (S := S512x1) inb_S512x1_S512x1_0_0 _ _ z2, View.canon_cons_unit_lit (S := S512x128) inb_S512x128_S512x128_0_0 _ _ z2, View.readAt_eq_ld, View.readCov_fill (s := S512x1) _ inb_S512x1_S512x1_0_0 _ _ _ z2, View.readCov_fill (s := S512x128) _ inb_S512x128_S512x128_0_0 _ _ _ z2, View.ld_unit_lit (S := S512x1) inb_S512x1_S512x1_0_0 _ z2, View.ld_unit_lit (S := S512x128) inb_S512x128_S512x128_0_0 _ z2, View.ld_unit_lit (S := S512x512) inb_S512x512_S512x512_0_0 _ z2]
    rfl
  isplitl [S0]
  · iexists _; isplitr; swap; · iexact S0
    ipureintro
    rw [View.read_writes_eq_canon _ _ _ (View.cover_of_tiled _ ![512, 1] (by rfl))]
    repeat delta run3_C.sl.S1_1 run3_C.sl.S2_1 run3_C.sl.v54 run3_C.sl.v55 run3_C.sl.r run3_C.sl.r_1 run3_C.sl.r_2 run3_C.sl.r_3
    simp only [View.canon_cons_unit_lit (S := S512x1) inb_S512x1_S512x1_0_0 _ _ z2, View.canon_cons_unit_lit (S := S512x128) inb_S512x128_S512x128_0_0 _ _ z2, View.readAt_eq_ld, View.readCov_fill (s := S512x1) _ inb_S512x1_S512x1_0_0 _ _ _ z2, View.readCov_fill (s := S512x128) _ inb_S512x128_S512x128_0_0 _ _ _ z2, View.ld_unit_lit (S := S512x1) inb_S512x1_S512x1_0_0 _ z2, View.ld_unit_lit (S := S512x128) inb_S512x128_S512x128_0_0 _ z2, View.ld_unit_lit (S := S512x512) inb_S512x512_S512x512_0_0 _ z2]
    rfl
  isplitl [S1]
  · iexists _; isplitr; swap; · iexact S1
    ipureintro
    rw [View.read_writes_eq_canon _ _ _ (View.cover_of_tiled _ ![512, 1] (by rfl))]
    repeat delta run3_C.sl.S1_1 run3_C.sl.S2_1 run3_C.sl.v54 run3_C.sl.v55 run3_C.sl.r run3_C.sl.r_1 run3_C.sl.r_2 run3_C.sl.r_3
    simp only [View.canon_cons_unit_lit (S := S512x1) inb_S512x1_S512x1_0_0 _ _ z2, View.canon_cons_unit_lit (S := S512x128) inb_S512x128_S512x128_0_0 _ _ z2, View.readAt_eq_ld, View.readCov_fill (s := S512x1) _ inb_S512x1_S512x1_0_0 _ _ _ z2, View.readCov_fill (s := S512x128) _ inb_S512x128_S512x128_0_0 _ _ _ z2, View.ld_unit_lit (S := S512x1) inb_S512x1_S512x1_0_0 _ z2, View.ld_unit_lit (S := S512x128) inb_S512x128_S512x128_0_0 _ z2, View.ld_unit_lit (S := S512x512) inb_S512x512_S512x512_0_0 _ z2]
    rfl
  · iexists _; isplitr; swap; · iexact S2
    ipureintro
    rw [View.read_writes_eq_canon _ _ _ (View.cover_of_tiled _ ![512, 128] (by rfl))]
    repeat delta run3_C.sl.S1_1 run3_C.sl.S2_1 run3_C.sl.v54 run3_C.sl.v55 run3_C.sl.r run3_C.sl.r_1 run3_C.sl.r_2 run3_C.sl.r_3
    simp only [View.canon_cons_unit_lit (S := S512x1) inb_S512x1_S512x1_0_0 _ _ z2, View.canon_cons_unit_lit (S := S512x128) inb_S512x128_S512x128_0_0 _ _ z2, View.readAt_eq_ld, View.readCov_fill (s := S512x1) _ inb_S512x1_S512x1_0_0 _ _ _ z2, View.readCov_fill (s := S512x128) _ inb_S512x128_S512x128_0_0 _ _ _ z2, View.ld_unit_lit (S := S512x1) inb_S512x1_S512x1_0_0 _ z2, View.ld_unit_lit (S := S512x128) inb_S512x128_S512x128_0_0 _ z2, View.ld_unit_lit (S := S512x512) inb_S512x512_S512x512_0_0 _ z2]
    rfl

end Cert.KernelIdeal.Gat

end
-- ==== Proof.Gat.Run1A.lean ====
/- The first attention layer's body at the first block of a row: the state after one block. -/
module

public import proofs.«01_k».proof.Proof.Gat.Run3
public import proofs.«01_k».proof.Proof.Gen.KernelIdeal.Points
public import proofs.«01_k».proof.Proof.Gen.KernelIdeal.Launch
public import Idealize.ShloMosaic.Lib.Pipeline.ReadBack
public import Idealize.ShloMosaic.Lib.Pipeline.ValueKit.Acc
public import Idealize.ShloMosaic.Lib.Ring
public import Idealize.ShloMosaic.Lib.Tactic
public import Idealize.ShloMosaic.Lib.WordCmp

@[expose] public section

set_option maxRecDepth 16384

noncomputable section

namespace Cert.KernelIdeal.Gat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first block of a row of blocks. -/
abbrev cond1_0 (i : grid1.Coords) : Prop := (Scalar.cmpi .ne (Scalar.extui (Scalar.cmpi .eq (BitVec.ofNat 32 (i 1).val) 0#32)) 0#32) = 1#1

/-- The last block of a row of blocks. -/
abbrev cond1_1 (i : grid1.Coords) : Prop := k1_cond2 i = 1#1

/-! The four heads compute the same functions, printed with different intermediate values named. -/

variable (a : Vec F S512x512 .f32) (s d mo lo : Vec F S512x1 .f32) (ao w : Vec F S512x128 .f32)

/-- Head 0, the maximum. -/
theorem head0_m : k1_pay14 a s d mo = mNew a s d mo := rfl
/-- Head 0, the sum. -/
theorem head0_l : k1_pay17 (k1_pay15 a s d mo lo) (k1_pay16 a s d mo) = lNew a s d mo lo := rfl
/-- Head 0, the weighted sum. -/
theorem head0_a : k1_pay18 (k1_pay12 a s d mo) (k1_pay13 a s d mo) ao w = aNew a s d mo ao w := rfl
/-- Head 1, the maximum. -/
theorem head1_m : k1_pay23 (k1_pay20 (k1_pay9 a) s d mo) = mNew a s d mo := rfl
/-- Head 1, the sum. -/
theorem head1_l : k1_pay24 (k1_pay21 (k1_pay9 a) s d mo) (k1_pay22 (k1_pay9 a) s d mo) lo = lNew a s d mo lo := rfl
/-- Head 1, the weighted sum. -/
theorem head1_a : k1_pay25 (k1_pay21 (k1_pay9 a) s d mo) (k1_pay22 (k1_pay9 a) s d mo) ao w = aNew a s d mo ao w := rfl
/-- Head 2, the maximum. -/
theorem head2_m : k1_pay30 (k1_pay26 (k1_pay9 a) s d) mo = mNew a s d mo := rfl
/-- Head 2, the sum. -/
theorem head2_l : k1_pay31 (k1_pay26 (k1_pay9 a) s d) mo lo = lNew a s d mo lo := rfl
/-- Head 2, the weighted sum. -/
theorem head2_a : k1_pay32 (k1_pay26 (k1_pay9 a) s d) mo ao w = aNew a s d mo ao w := rfl
/-- Head 3, the maximum. -/
theorem head3_m : k1_pay39 (k1_pay9 a) (k1_pay33 d) (k1_pay34 s) mo = mNew a s d mo := rfl
/-- Head 3, the sum. -/
theorem head3_l : k1_pay40 (k1_pay9 a) (k1_pay33 d) (k1_pay34 s) mo lo = lNew a s d mo lo := rfl
/-- Head 3, the weighted sum. -/
theorem head3_a : k1_pay1 (k1_pay41 (k1_pay9 a) (k1_pay33 d) (k1_pay34 s) mo ao w) = aNew a s d mo ao w := rfl
/-- The quotient of head 1 is that of head 0. -/
theorem head1_o : k1_pay4 ao lo = k1_pay3 ao lo := rfl
/-- The quotient of head 2 is that of head 0. -/
theorem head2_o : k1_pay5 ao lo = k1_pay3 ao lo := rfl
/-- The quotient of head 3 is that of head 0. -/
theorem head3_o : k1_pay2 ao lo = k1_pay3 ao lo := rfl

/-- Earlier stores under stores that cover the buffer leave no trace. -/
theorem canon_append_covered {s : Shape} {e : EltTy} (L L' : List (View.Piece (Elt F) s e)) (h : ∀ y, ∃ p ∈ L, y ∈ p.1.set) :
    View.canon (L ++ L') = View.canon L := by
  funext y
  have key : ∀ L : List (View.Piece (Elt F) s e), (∃ p ∈ L, y ∈ p.1.set) → View.canon (L ++ L') y = View.canon L y := by
    intro L
    induction L with
    | nil => rintro ⟨p, hp, -⟩; exact absurd hp List.not_mem_nil
    | cons q L ih =>
      rintro ⟨p, hp, hy⟩
      by_cases hq : y ∈ q.1.set
      · obtain ⟨r, w⟩ := q
        obtain ⟨x, rfl⟩ : ∃ x, r.emb x = y := r.exists_idx_of_mem hq
        rw [List.cons_append, View.canon_cons_emb, View.canon_cons_emb]
      · rw [List.cons_append, View.canon_cons_of_not_mem _ _ hq, View.canon_cons_of_not_mem _ _ hq]
        refine ih ⟨p, ?_, hy⟩
        rcases List.mem_cons.mp hp with rfl | h
        · exact absurd hy hq
        · exact h
  exact key L (h y)

/-- The same for four stores over one fill. -/
theorem canon_init4 {s : Shape} {e : EltTy} (p q r t i : View.Piece (Elt F) s e) (h : ∀ y, ∃ x ∈ [p, q, r, t], y ∈ x.1.set) :
    View.canon [p, q, r, t, i] = View.canon [p, q, r, t] :=
  canon_append_covered [p, q, r, t] [i] h

set_option maxHeartbeats 1000000 in
/-- At the first block of a row the body starts from the initial state, whatever the carried buffers held, and leaves the state after one block. -/
theorem run1_A (c : Dev nD) (i : grid1.Coords) (arg2 : Memref sig .tc .vmem S512x512 .f32) (harg2 : arg2.IsWhole) (arg3 : Memref sig .tc .vmem S512x4 .f32) (harg3 : arg3.IsWhole) (arg4 : Memref sig .tc .vmem S512x4 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x4 .f32) (harg7 : arg7.IsWhole) (arg8 : Memref sig .tc .vmem S512x4 .f32) (harg8 : arg8.IsWhole) (arg9 : Memref sig .tc .vmem S512x512 .f32) (harg9 : arg9.IsWhole) (hc0 : cond1_0 i) (hc1 : ¬cond1_1 i)
    (x0 : Vec F S512x512 .f32) (x1 : Vec F S512x4 .f32) (x2 : Vec F S512x4 .f32) (x3 : Vec F S512x512 .f32) (x4 : Vec F S512x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (step1 x0 x1 x2 x3 init1).1 ∗ owns (c : Thread nD τ) arg8 fullShare (step1 x0 x1 x2 x3 init1).2.1 ∗ owns (c : Thread nD τ) arg9 fullShare (step1 x0 x1 x2 x3 init1).2.2) -∗ K ⟨⟩))
      ⊢ wp frame (wpE (defs₀ (F := F)) Variants.none c none) E (cc1__flash_body i arg2 harg2 arg3 harg3 arg4 harg4 arg5 harg5 arg6 harg6 arg7 harg7 arg8 harg8 arg9 harg9) K := by
  simp only [cc1__flash_body_eq_skeleton]; unfold cc1__flash_body_skel
  simp only [k1_part6_eq_skeleton, k1_part2_eq_skeleton, k1_part3_eq_skeleton, k1_part4_eq_skeleton, k1_part5_eq_skeleton]
  unfold owns
  iintro ⟨⟨%f0, %h0, H0⟩, ⟨%f1, %h1, H1⟩, ⟨%f2, %h2, H2⟩, ⟨%f3, %h3, H3⟩, ⟨%f4, %h4, H4⟩, ⟨%d0, %fs0, -, S0⟩, ⟨%d1, %fs1, -, S1⟩, ⟨%d2, %fs2, -, S2⟩, Hk⟩
  subst h0 h1 h2 h3
  subst h4
  sl_exec (disch := first | sl_exact hc0 | sl_exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [S0]
  · iexists _; isplitr; swap; · iexact S0
    ipureintro
    rw [View.read_writes_eq_canon _ _ _ (View.cover_of_tiled _ ![512, 1] (by rfl))]
    repeat delta run1_A.sl.S0_1 run1_A.sl.S0_2 run1_A.sl.S0_3 run1_A.sl.S0_4 run1_A.sl.S1_1 run1_A.sl.S1_2 run1_A.sl.S1_3 run1_A.sl.S1_4 run1_A.sl.S2_1 run1_A.sl.S2_2 run1_A.sl.S2_3 run1_A.sl.S2_4 run1_A.sl.r run1_A.sl.r_1 run1_A.sl.r_10 run1_A.sl.r_11 run1_A.sl.r_2 run1_A.sl.r_3 run1_A.sl.r_4 run1_A.sl.r_5 run1_A.sl.r_6 run1_A.sl.r_7 run1_A.sl.r_8 run1_A.sl.r_9 run1_A.sl.v111 run1_A.sl.v123 run1_A.sl.v131 run1_A.sl.v156 run1_A.sl.v168 run1_A.sl.v176 run1_A.sl.v21 run1_A.sl.v33 run1_A.sl.v41 run1_A.sl.v66 run1_A.sl.v78 run1_A.sl.v86
    simp (disch := decide +kernel) only [View.readAt_eq_ld, View.ld_unit_lit (S := S512x512) inb_S512x512_S512x512_0_0 _ z2, head0_m, head0_l, head0_a, head1_m, head1_l, head1_a, head2_m, head2_l, head2_a, head3_m, head3_l, head3_a, head1_o, head2_o, head3_o, ↓View.readCov_skip, View.readCov_fill (s := S512x4) _ inb_S512x4_S512x4_0_0 _ _ _ z2, View.readCov_fill (s := S512x512) _ inb_S512x512_S512x512_0_0 _ _ _ z2]
    refine (canon_init4 (F := F) _ _ _ _ _ ?_).trans ?_
    · exact View.cover_of_tiled _ ![512, 1] (by rfl)
    · rfl
  isplitl [S1]
  · iexists _; isplitr; swap; · iexact S1
    ipureintro
    rw [View.read_writes_eq_canon _ _ _ (View.cover_of_tiled _ ![512, 1] (by rfl))]
    repeat delta run1_A.sl.S0_1 run1_A.sl.S0_2 run1_A.sl.S0_3 run1_A.sl.S0_4 run1_A.sl.S1_1 run1_A.sl.S1_2 run1_A.sl.S1_3 run1_A.sl.S1_4 run1_A.sl.S2_1 run1_A.sl.S2_2 run1_A.sl.S2_3 run1_A.sl.S2_4 run1_A.sl.r run1_A.sl.r_1 run1_A.sl.r_10 run1_A.sl.r_11 run1_A.sl.r_2 run1_A.sl.r_3 run1_A.sl.r_4 run1_A.sl.r_5 run1_A.sl.r_6 run1_A.sl.r_7 run1_A.sl.r_8 run1_A.sl.r_9 run1_A.sl.v111 run1_A.sl.v123 run1_A.sl.v131 run1_A.sl.v156 run1_A.sl.v168 run1_A.sl.v176 run1_A.sl.v21 run1_A.sl.v33 run1_A.sl.v41 run1_A.sl.v66 run1_A.sl.v78 run1_A.sl.v86
    simp (disch := decide +kernel) only [View.readAt_eq_ld, View.ld_unit_lit (S := S512x512) inb_S512x512_S512x512_0_0 _ z2, head0_m, head0_l, head0_a, head1_m, head1_l, head1_a, head2_m, head2_l, head2_a, head3_m, head3_l, head3_a, head1_o, head2_o, head3_o, ↓View.readCov_skip, View.readCov_fill (s := S512x4) _ inb_S512x4_S512x4_0_0 _ _ _ z2, View.readCov_fill (s := S512x512) _ inb_S512x512_S512x512_0_0 _ _ _ z2]
    refine (canon_init4 (F := F) _ _ _ _ _ ?_).trans ?_
    · exact View.cover_of_tiled _ ![512, 1] (by rfl)
    · rfl
  · iexists _; isplitr; swap; · iexact S2
    ipureintro
    rw [View.read_writes_eq_canon _ _ _ (View.cover_of_tiled _ ![512, 128] (by rfl))]
    repeat delta run1_A.sl.S0_1 run1_A.sl.S0_2 run1_A.sl.S0_3 run1_A.sl.S0_4 run1_A.sl.S1_1 run1_A.sl.S1_2 run1_A.sl.S1_3 run1_A.sl.S1_4 run1_A.sl.S2_1 run1_A.sl.S2_2 run1_A.sl.S2_3 run1_A.sl.S2_4 run1_A.sl.r run1_A.sl.r_1 run1_A.sl.r_10 run1_A.sl.r_11 run1_A.sl.r_2 run1_A.sl.r_3 run1_A.sl.r_4 run1_A.sl.r_5 run1_A.sl.r_6 run1_A.sl.r_7 run1_A.sl.r_8 run1_A.sl.r_9 run1_A.sl.v111 run1_A.sl.v123 run1_A.sl.v131 run1_A.sl.v156 run1_A.sl.v168 run1_A.sl.v176 run1_A.sl.v21 run1_A.sl.v33 run1_A.sl.v41 run1_A.sl.v66 run1_A.sl.v78 run1_A.sl.v86
    simp (disch := decide +kernel) only [View.readAt_eq_ld, View.ld_unit_lit (S := S512x512) inb_S512x512_S512x512_0_0 _ z2, head0_m, head0_l, head0_a, head1_m, head1_l, head1_a, head2_m, head2_l, head2_a, head3_m, head3_l, head3_a, head1_o, head2_o, head3_o, ↓View.readCov_skip, View.readCov_fill (s := S512x4) _ inb_S512x4_S512x4_0_0 _ _ _ z2, View.readCov_fill (s := S512x512) _ inb_S512x512_S512x512_0_0 _ _ _ z2]
    refine (canon_init4 (F := F) _ _ _ _ _ ?_).trans ?_
    · exact View.cover_of_tiled _ ![512, 128] (by rfl)
    · rfl

end Cert.KernelIdeal.Gat

end
-- ==== Proof.Gat.Run1B.lean ====
/- The first attention layer's body at a middle block: the state moves by one block. -/
module

public import proofs.«01_k».proof.Proof.Gat.Run1A
public import proofs.«01_k».proof.Proof.Gen.KernelIdeal.Points
public import proofs.«01_k».proof.Proof.Gen.KernelIdeal.Launch
public import Idealize.ShloMosaic.Lib.Pipeline.ReadBack
public import Idealize.ShloMosaic.Lib.Pipeline.ValueKit.Acc
public import Idealize.ShloMosaic.Lib.Ring
public import Idealize.ShloMosaic.Lib.Tactic
public import Idealize.ShloMosaic.Lib.WordCmp

@[expose] public section

set_option maxRecDepth 16384

noncomputable section

namespace Cert.KernelIdeal.Gat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a middle block the body moves the carried state by one block and leaves the output buffer alone. -/
theorem run1_B (c : Dev nD) (i : grid1.Coords) (arg2 : Memref sig .tc .vmem S512x512 .f32) (harg2 : arg2.IsWhole) (arg3 : Memref sig .tc .vmem S512x4 .f32) (harg3 : arg3.IsWhole) (arg4 : Memref sig .tc .vmem S512x4 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x4 .f32) (harg7 : arg7.IsWhole) (arg8 : Memref sig .tc .vmem S512x4 .f32) (harg8 : arg8.IsWhole) (arg9 : Memref sig .tc .vmem S512x512 .f32) (harg9 : arg9.IsWhole) (hc0 : ¬cond1_0 i) (hc1 : ¬cond1_1 i)
    (x0 : Vec F S512x512 .f32) (x1 : Vec F S512x4 .f32) (x2 : Vec F S512x4 .f32) (x3 : Vec F S512x512 .f32) (x4 : Vec F S512x512 .f32) (s : St1 F) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare s.1 ∗ owns (c : Thread nD τ) arg8 fullShare s.2.1 ∗ owns (c : Thread nD τ) arg9 fullShare s.2.2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (step1 x0 x1 x2 x3 s).1 ∗ owns (c : Thread nD τ) arg8 fullShare (step1 x0 x1 x2 x3 s).2.1 ∗ owns (c : Thread nD τ) arg9 fullShare (step1 x0 x1 x2 x3 s).2.2) -∗ K ⟨⟩))
      ⊢ wp frame (wpE (defs₀ (F := F)) Variants.none c none) E (cc1__flash_body i arg2 harg2 arg3 harg3 arg4 harg4 arg5 harg5 arg6 harg6 arg7 harg7 arg8 harg8 arg9 harg9) K := by
  simp only [cc1__flash_body_eq_skeleton]; unfold cc1__flash_body_skel
  simp only [k1_part6_eq_skeleton, k1_part2_eq_skeleton, k1_part3_eq_skeleton, k1_part4_eq_skeleton, k1_part5_eq_skeleton]
  unfold owns
  iintro ⟨⟨%f0, %h0, H0⟩, ⟨%f1, %h1, H1⟩, ⟨%f2, %h2, H2⟩, ⟨%f3, %h3, H3⟩, ⟨%f4, %h4, H4⟩, ⟨%fs0, %hs0, S0⟩, ⟨%fs1, %hs1, S1⟩, ⟨%fs2, %hs2, S2⟩, Hk⟩
  obtain ⟨s0, s1, s2⟩ := s
  subst h0 h1 h2 h3
  subst h4
  dsimp only at hs0 hs1 hs2
  subst hs0 hs1 hs2
  sl_exec (disch := first | sl_exact hc0 | sl_exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [S0]
  · iexists _; isplitr; swap; · iexact S0
    ipureintro
    rw [View.read_writes_eq_canon _ _ _ (View.cover_of_tiled _ ![512, 1] (by rfl))]
    repeat delta run1_B.sl.r run1_B.sl.r_1 run1_B.sl.r_10 run1_B.sl.r_11 run1_B.sl.r_2 run1_B.sl.r_3 run1_B.sl.r_4 run1_B.sl.r_5 run1_B.sl.r_6 run1_B.sl.r_7 run1_B.sl.r_8 run1_B.sl.r_9 run1_B.sl.v111 run1_B.sl.v123 run1_B.sl.v131 run1_B.sl.v156 run1_B.sl.v168 run1_B.sl.v176 run1_B.sl.v66 run1_B.sl.v78 run1_B.sl.v86
    simp (disch := decide +kernel) only [View.readAt_eq_ld, View.ld_unit_lit (S := S512x512) inb_S512x512_S512x512_0_0 _ z2, head0_m, head0_l, head0_a, head1_m, head1_l, head1_a, head2_m, head2_l, head2_a, head3_m, head3_l, head3_a, head1_o, head2_o, head3_o]
    rfl
  isplitl [S1]
  · iexists _; isplitr; swap; · iexact S1
    ipureintro
    rw [View.read_writes_eq_canon _ _ _ (View.cover_of_tiled _ ![512, 1] (by rfl))]
    repeat delta run1_B.sl.r run1_B.sl.r_1 run1_B.sl.r_10 run1_B.sl.r_11 run1_B.sl.r_2 run1_B.sl.r_3 run1_B.sl.r_4 run1_B.sl.r_5 run1_B.sl.r_6 run1_B.sl.r_7 run1_B.sl.r_8 run1_B.sl.r_9 run1_B.sl.v111 run1_B.sl.v123 run1_B.sl.v131 run1_B.sl.v156 run1_B.sl.v168 run1_B.sl.v176 run1_B.sl.v66 run1_B.sl.v78 run1_B.sl.v86
    simp (disch := decide +kernel) only [View.readAt_eq_ld, View.ld_unit_lit (S := S512x512) inb_S512x512_S512x512_0_0 _ z2, head0_m, head0_l, head0_a, head1_m, head1_l, head1_a, head2_m, head2_l, head2_a, head3_m, head3_l, head3_a, head1_o, head2_o, head3_o]
    rfl
  · iexists _; isplitr; swap; · iexact S2
    ipureintro
    rw [View.read_writes_eq_canon _ _ _ (View.cover_of_tiled _ ![512, 128] (by rfl))]
    repeat delta run1_B.sl.r run1_B.sl.r_1 run1_B.sl.r_10 run1_B.sl.r_11 run1_B.sl.r_2 run1_B.sl.r_3 run1_B.sl.r_4 run1_B.sl.r_5 run1_B.sl.r_6 run1_B.sl.r_7 run1_B.sl.r_8 run1_B.sl.r_9 run1_B.sl.v111 run1_B.sl.v123 run1_B.sl.v131 run1_B.sl.v156 run1_B.sl.v168 run1_B.sl.v176 run1_B.sl.v66 run1_B.sl.v78 run1_B.sl.v86
    simp (disch := decide +kernel) only [View.readAt_eq_ld, View.ld_unit_lit (S := S512x512) inb_S512x512_S512x512_0_0 _ z2, head0_m, head0_l, head0_a, head1_m, head1_l, head1_a, head2_m, head2_l, head2_a, head3_m, head3_l, head3_a, head1_o, head2_o, head3_o]
    rfl

end Cert.KernelIdeal.Gat

end
-- ==== Proof.Gat.Run1C.lean ====
/- The first attention layer's body at the last block of a row: the state moves by one block and the four quotients are written out. -/
module

public import proofs.«01_k».proof.Proof.Gat.Run1B
public import proofs.«01_k».proof.Proof.Gen.KernelIdeal.Points
public import proofs.«01_k».proof.Proof.Gen.KernelIdeal.Launch
public import Idealize.ShloMosaic.Lib.Pipeline.ReadBack
public import Idealize.ShloMosaic.Lib.Pipeline.ValueKit.Acc
public import Idealize.ShloMosaic.Lib.Ring
public import Idealize.ShloMosaic.Lib.Tactic
public import Idealize.ShloMosaic.Lib.WordCmp

@[expose] public section

set_option maxRecDepth 16384

noncomputable section

namespace Cert.KernelIdeal.Gat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- At the last block of a row the body moves the carried state by one block and writes out what it makes of it. -/
theorem run1_C (c : Dev nD) (i : grid1.Coords) (arg2 : Memref sig .tc .vmem S512x512 .f32) (harg2 : arg2.IsWhole) (arg3 : Memref sig .tc .vmem S512x4 .f32) (harg3 : arg3.IsWhole) (arg4 : Memref sig .tc .vmem S512x4 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x4 .f32) (harg7 : arg7.IsWhole) (arg8 : Memref sig .tc .vmem S512x4 .f32) (harg8 : arg8.IsWhole) (arg9 : Memref sig .tc .vmem S512x512 .f32) (harg9 : arg9.IsWhole) (hc0 : ¬cond1_0 i) (hc1 : cond1_1 i)
    (x0 : Vec F S512x512 .f32) (x1 : Vec F S512x4 .f32) (x2 : Vec F S512x4 .f32) (x3 : Vec F S512x512 .f32) (s : St1 F) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare s.1 ∗ owns (c : Thread nD τ) arg8 fullShare s.2.1 ∗ owns (c : Thread nD τ) arg9 fullShare s.2.2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out1 (step1 x0 x1 x2 x3 s)) ∗ owns (c : Thread nD τ) arg7 fullShare (step1 x0 x1 x2 x3 s).1 ∗ owns (c : Thread nD τ) arg8 fullShare (step1 x0 x1 x2 x3 s).2.1 ∗ owns (c : Thread nD τ) arg9 fullShare (step1 x0 x1 x2 x3 s).2.2) -∗ K ⟨⟩))
      ⊢ wp frame (wpE (defs₀ (F := F)) Variants.none c none) E (cc1__flash_body i arg2 harg2 arg3 harg3 arg4 harg4 arg5 harg5 arg6 harg6 arg7 harg7 arg8 harg8 arg9 harg9) K := by
  simp only [cc1__flash_body_eq_skeleton]; unfold cc1__flash_body_skel
  simp only [k1_part6_eq_skeleton, k1_part2_eq_skeleton, k1_part3_eq_skeleton, k1_part4_eq_skeleton, k1_part5_eq_skeleton, k1_part1_eq_skeleton]
  unfold owns
  iintro ⟨⟨%f0, %h0, H0⟩, ⟨%f1, %h1, H1⟩, ⟨%f2, %h2, H2⟩, ⟨%f3, %h3, H3⟩, ⟨%d4, %f4, -, H4⟩, ⟨%fs0, %hs0, S0⟩, ⟨%fs1, %hs1, S1⟩, ⟨%fs2, %hs2, S2⟩, Hk⟩
  obtain ⟨s0, s1, s2⟩ := s
  subst h0 h1 h2 h3
  dsimp only at hs0 hs1 hs2
  subst hs0 hs1 hs2
  sl_exec (disch := first | sl_exact hc0 | sl_exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; swap; · iexact H4
    ipureintro
    rw [View.read_writes_eq_canon _ _ _ (View.cover_of_tiled _ ![512, 128] (by rfl))]
    repeat delta run1_C.sl.S1_4 run1_C.sl.S2_4 run1_C.sl.r run1_C.sl.r_1 run1_C.sl.r_10 run1_C.sl.r_11 run1_C.sl.r_2 run1_C.sl.r_3 run1_C.sl.r_4 run1_C.sl.r_5 run1_C.sl.r_6 run1_C.sl.r_7 run1_C.sl.r_8 run1_C.sl.r_9 run1_C.sl.v111 run1_C.sl.v123 run1_C.sl.v131 run1_C.sl.v156 run1_C.sl.v168 run1_C.sl.v176 run1_C.sl.v189 run1_C.sl.v190 run1_C.sl.v200 run1_C.sl.v201 run1_C.sl.v211 run1_C.sl.v212 run1_C.sl.v222 run1_C.sl.v223 run1_C.sl.v66 run1_C.sl.v78 run1_C.sl.v86
    simp (disch := decide +kernel) only [View.readAt_eq_ld, View.ld_unit_lit (S := S512x512) inb_S512x512_S512x512_0_0 _ z2, head0_m, head0_l, head0_a, head1_m, head1_l, head1_a, head2_m, head2_l, head2_a, head3_m, head3_l, head3_a, head1_o, head2_o, head3_o, View.readCov_eq_canon']
    rfl
  isplitl [S0]
  · iexists _; isplitr; swap; · iexact S0
    ipureintro
    rw [View.read_writes_eq_canon _ _ _ (View.cover_of_tiled _ ![512, 1] (by rfl))]
    repeat delta run1_C.sl.S1_4 run1_C.sl.S2_4 run1_C.sl.r run1_C.sl.r_1 run1_C.sl.r_10 run1_C.sl.r_11 run1_C.sl.r_2 run1_C.sl.r_3 run1_C.sl.r_4 run1_C.sl.r_5 run1_C.sl.r_6 run1_C.sl.r_7 run1_C.sl.r_8 run1_C.sl.r_9 run1_C.sl.v111 run1_C.sl.v123 run1_C.sl.v131 run1_C.sl.v156 run1_C.sl.v168 run1_C.sl.v176 run1_C.sl.v189 run1_C.sl.v190 run1_C.sl.v200 run1_C.sl.v201 run1_C.sl.v211 run1_C.sl.v212 run1_C.sl.v222 run1_C.sl.v223 run1_C.sl.v66 run1_C.sl.v78 run1_C.sl.v86
    simp (disch := decide +kernel) only [View.readAt_eq_ld, View.ld_unit_lit (S := S512x512) inb_S512x512_S512x512_0_0 _ z2, head0_m, head0_l, head0_a, head1_m, head1_l, head1_a, head2_m, head2_l, head2_a, head3_m, head3_l, head3_a, head1_o, head2_o, head3_o]
    rfl
  isplitl [S1]
  · iexists _; isplitr; swap; · iexact S1
    ipureintro
    rw [View.read_writes_eq_canon _ _ _ (View.cover_of_tiled _ ![512, 1] (by rfl))]
    repeat delta run1_C.sl.S1_4 run1_C.sl.S2_4 run1_C.sl.r run1_C.sl.r_1 run1_C.sl.r_10 run1_C.sl.r_11 run1_C.sl.r_2 run1_C.sl.r_3 run1_C.sl.r_4 run1_C.sl.r_5 run1_C.sl.r_6 run1_C.sl.r_7 run1_C.sl.r_8 run1_C.sl.r_9 run1_C.sl.v111 run1_C.sl.v123 run1_C.sl.v131 run1_C.sl.v156 run1_C.sl.v168 run1_C.sl.v176 run1_C.sl.v189 run1_C.sl.v190 run1_C.sl.v200 run1_C.sl.v201 run1_C.sl.v211 run1_C.sl.v212 run1_C.sl.v222 run1_C.sl.v223 run1_C.sl.v66 run1_C.sl.v78 run1_C.sl.v86
    simp (disch := decide +kernel) only [View.readAt_eq_ld, View.ld_unit_lit (S := S512x512) inb_S512x512_S512x512_0_0 _ z2, head0_m, head0_l, head0_a, head1_m, head1_l, head1_a, head2_m, head2_l, head2_a, head3_m, head3_l, head3_a, head1_o, head2_o, head3_o]
    rfl
  · iexists _; isplitr; swap; · iexact S2
    ipureintro
    rw [View.read_writes_eq_canon _ _ _ (View.cover_of_tiled _ ![512, 128] (by rfl))]
    repeat delta run1_C.sl.S1_4 run1_C.sl.S2_4 run1_C.sl.r run1_C.sl.r_1 run1_C.sl.r_10 run1_C.sl.r_11 run1_C.sl.r_2 run1_C.sl.r_3 run1_C.sl.r_4 run1_C.sl.r_5 run1_C.sl.r_6 run1_C.sl.r_7 run1_C.sl.r_8 run1_C.sl.r_9 run1_C.sl.v111 run1_C.sl.v123 run1_C.sl.v131 run1_C.sl.v156 run1_C.sl.v168 run1_C.sl.v176 run1_C.sl.v189 run1_C.sl.v190 run1_C.sl.v200 run1_C.sl.v201 run1_C.sl.v211 run1_C.sl.v212 run1_C.sl.v222 run1_C.sl.v223 run1_C.sl.v66 run1_C.sl.v78 run1_C.sl.v86
    simp (disch := decide +kernel) only [View.readAt_eq_ld, View.ld_unit_lit (S := S512x512) inb_S512x512_S512x512_0_0 _ z2, head0_m, head0_l, head0_a, head1_m, head1_l, head1_a, head2_m, head2_l, head2_a, head3_m, head3_l, head3_a, head1_o, head2_o, head3_o]
    rfl

end Cert.KernelIdeal.Gat

end
-- ==== Proof.Gat.Reg1.lean ====
/- Region 1 of the launch, an attention layer: the state its points carry and the proof data its pipeline runs with. -/
module

public import proofs.«01_k».proof.Proof.Gat.Run1C
public import proofs.«01_k».proof.Proof.Gen.KernelIdeal.Points
public import proofs.«01_k».proof.Proof.Gen.KernelIdeal.Launch
public import Idealize.ShloMosaic.Lib.Pipeline.ReadBack
public import Idealize.ShloMosaic.Lib.Pipeline.ValueKit.Acc
public import Idealize.ShloMosaic.Lib.Ring
public import Idealize.ShloMosaic.Lib.Tactic
public import Idealize.ShloMosaic.Lib.WordCmp

@[expose] public section

set_option maxRecDepth 16384

noncomputable section

namespace Cert.KernelIdeal.Gat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-- The block of window `w` at point `t`, read off the contents the region is entered with. -/
def iblk1 (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- A row of blocks starts at the points divisible by eight. -/
theorem hcond1_0 : ∀ t : Fin grid1.N, cond1_0 (grid1.coords t) ↔ t.val % 8 = 0 :=
  (fun t => by
    have ht : t.val < 64 := Nat.lt_of_lt_of_eq t.isLt N_1
    have e0 : (grid1.coords t 0).val = t.val / 8 % 8 := Pipeline.Grid.coords_val t 0 (by decide) rfl
    have e1 : (grid1.coords t 1).val = t.val / 1 % 8 := Pipeline.Grid.coords_val t 1 (by decide) rfl
    simp only [cond1_0, e0, e1]
    word_cmp)

/-- It ends at the points that leave seven on division by eight. -/
theorem hcond1_1 : ∀ t : Fin grid1.N, cond1_1 (grid1.coords t) ↔ t.val % 8 = 7 :=
  (fun t => by
    have ht : t.val < 64 := Nat.lt_of_lt_of_eq t.isLt N_1
    have e0 : (grid1.coords t 0).val = t.val / 8 % 8 := Pipeline.Grid.coords_val t 0 (by decide) rfl
    have e1 : (grid1.coords t 1).val = t.val / 1 % 8 := Pipeline.Grid.coords_val t 1 (by decide) rfl
    simp only [cond1_1, k1_cond2, e0, e1]
    word_cmp)

/-- Window 0 is used at every point. -/
theorem live1_0 (t : Fin cfg1.N) : cfg1.idle 0 (grid1.coords t) = false := rfl

/-- Window 1 is used at every point. -/
theorem live1_1 (t : Fin cfg1.N) : cfg1.idle 1 (grid1.coords t) = false := rfl

/-- Window 2 is used at every point. -/
theorem live1_2 (t : Fin cfg1.N) : cfg1.idle 2 (grid1.coords t) = false := rfl

/-- Window 3 is used at every point. -/
theorem live1_3 (t : Fin cfg1.N) : cfg1.idle 3 (grid1.coords t) = false := rfl

/-- The output window is idle until the last block of a row. -/
theorem idle1_4 : ∀ t : Fin cfg1.N, ¬cond1_1 (grid1.coords t) → cfg1.idle 4 (grid1.coords t) = true := by decide +kernel

/-- It is not written back until then. -/
theorem noFlush1_4 : ∀ t : Fin cfg1.N, ¬cond1_1 (grid1.coords t) → (cfg1.win 4).flush t = false := by decide +kernel

/-- At the last block of a row it is used. -/
theorem live1_4 : ∀ t : Fin cfg1.N, cond1_1 (grid1.coords t) → cfg1.idle 4 (grid1.coords t) = false := by decide +kernel

/-- Carried buffer 0, whole. -/
abbrev sc1_0 := (Memref.whole cc1_scratch0)

/-- Carried buffer 1, whole. -/
abbrev sc1_1 := (Memref.whole cc1_scratch1)

/-- Carried buffer 2, whole. -/
abbrev sc1_2 := (Memref.whole cc1_scratch2)

/-- The state after point `n`: a row of blocks starts from the initial state, every other block from the state before it. -/
def stAt1 (c : Dev nD) : (n : ℕ) → n < cfg1.N → St1 F
  | 0, h => step1 (iblk1 V c 0 ⟨0, h⟩) (iblk1 V c 1 ⟨0, h⟩) (iblk1 V c 2 ⟨0, h⟩) (iblk1 V c 3 ⟨0, h⟩) init1
  | n + 1, h => step1 (iblk1 V c 0 ⟨n + 1, h⟩) (iblk1 V c 1 ⟨n + 1, h⟩) (iblk1 V c 2 ⟨n + 1, h⟩) (iblk1 V c 3 ⟨n + 1, h⟩) (if (n + 1) % 8 = 0 then init1 else stAt1 c n (Nat.lt_of_succ_lt h))

/-- The state after the first block of a row. -/
theorem stAt1_first (c : Dev nD) (t : Fin cfg1.N) (h0 : t.val % 8 = 0) :
    stAt1 V c t.val t.isLt = step1 (iblk1 V c 0 t) (iblk1 V c 1 t) (iblk1 V c 2 t) (iblk1 V c 3 t) init1 := by
  obtain ⟨n, hn⟩ := t
  cases n with
  | zero => rw [stAt1]
  | succ n => rw [stAt1, if_pos h0]

/-- The state after a later block. -/
theorem stAt1_next (c : Dev nD) (t : Fin cfg1.N) (h0 : ¬t.val % 8 = 0) (h1 : t.val - 1 < cfg1.N) :
    stAt1 V c t.val t.isLt = step1 (iblk1 V c 0 t) (iblk1 V c 1 t) (iblk1 V c 2 t) (iblk1 V c 3 t) (stAt1 V c (t.val - 1) h1) := by
  obtain ⟨n, hn⟩ := t
  cases n with
  | zero => exact absurd rfl h0
  | succ n => rw [stAt1, if_neg h0]; rfl

/-- The three carried buffers at a state. -/
def scr1 (c : Dev nD) (s : St1 F) : sProp 𝕄 :=
  iprop(owns (c : Thread nD τ) sc1_0 fullShare s.1 ∗ owns (c : Thread nD τ) sc1_1 fullShare s.2.1 ∗ owns (c : Thread nD τ) sc1_2 fullShare s.2.2)

/-- The three carried buffers at anything. -/
def scrAny1 (c : Dev nD) : sProp 𝕄 :=
  iprop((∃ d, owns (c : Thread nD τ) sc1_0 fullShare d) ∗ (∃ d, owns (c : Thread nD τ) sc1_1 fullShare d) ∗ (∃ d, owns (c : Thread nD τ) sc1_2 fullShare d))

/-- What else the region holds: the other scoped buffers and the generator's register. -/
def rest1 (c : Dev nD) : sProp 𝕄 :=
  iprop(Pipeline.scopedRestBut (Ix := Unit) (Name := ℕ) (U := UR sig nD τ) (Lvl := ℕ) (Val := Elt F) spec1 c [cc1_scratch0, cc1_scratch1, cc1_scratch2] ∗ ∃ w, prngReg c w)

/-- The launch's scoped resources are the carried buffers at anything and the rest. -/
theorem PhiA1_split (c : Dev nD) : (Pipeline.ΦA spec1 c : sProp 𝕄) ⊢ iprop(scrAny1 (F := F) c ∗ rest1 (F := F) c) := by
  unfold Pipeline.ΦA scrAny1 rest1
  rw [scopedRest1_split]
  simp only [sc1_0, sc1_1, sc1_2, owns_whole]
  iintro ⟨⟨Hs, Hr⟩, Hg⟩
  isplitl [Hs]; · iexact Hs
  isplitl [Hr]; · iexact Hr
  iexact Hg

/-- And back. -/
theorem PhiA1_join (c : Dev nD) : iprop(scrAny1 (F := F) c ∗ rest1 (F := F) c) ⊢ (Pipeline.ΦA spec1 c : sProp 𝕄) := by
  unfold Pipeline.ΦA scrAny1 rest1
  rw [scopedRest1_split]
  simp only [sc1_0, sc1_1, sc1_2, owns_whole]
  iintro ⟨Hs, Hr, Hg⟩
  isplitl [Hs Hr]
  · isplitl [Hs]; · iexact Hs
    iexact Hr
  iexact Hg

/-- Buffers at a state are buffers at something. -/
theorem scr1_any (c : Dev nD) (s : St1 F) : scr1 c s ⊢ scrAny1 (F := F) c := by
  unfold scr1 scrAny1
  iintro ⟨H0, H1, H2⟩
  isplitl [H0]; · iexists _; iexact H0
  isplitl [H1]; · iexists _; iexact H1
  iexists _; iexact H2

/-- The invariant before point `n`: at the start the carried buffers hold anything, afterwards the state the points before left. -/
def Phi1 (c : Dev nD) : (n : ℕ) → n ≤ cfg1.N → sProp 𝕄
  | 0, _ => Pipeline.ΦA spec1 c
  | n + 1, h => iprop(scr1 c (stAt1 V c n h) ∗ rest1 (F := F) c)

/-- After a point. -/
theorem Phi1_succ (c : Dev nD) (n : ℕ) (hn : n < cfg1.N) :
    Phi1 V c (n + 1) hn = iprop(scr1 c (stAt1 V c n hn) ∗ rest1 (F := F) c) := by rw [Phi1]

/-- Before any point but the first. -/
theorem Phi1_pos (c : Dev nD) (n : ℕ) (h : n ≤ cfg1.N) (hz : n ≠ 0) (h1 : n - 1 < cfg1.N) :
    Phi1 V c n h = iprop(scr1 c (stAt1 V c (n - 1) h1) ∗ rest1 (F := F) c) := by
  cases n with
  | zero => exact absurd rfl hz
  | succ n => rw [Phi1]; rfl

/-- At any time the carried buffers hold something. -/
theorem Phi1_any (c : Dev nD) (n : ℕ) (h : n ≤ cfg1.N) :
    Phi1 V c n h ⊢ iprop(scrAny1 (F := F) c ∗ rest1 (F := F) c) := by
  cases n with
  | zero => rw [Phi1]; exact PhiA1_split c
  | succ n => rw [Phi1]; exact sep_mono (scr1_any c _) .rfl

/-- The region's proof data: the arrays as it finds them, the output buffer at what the finished state gives. -/
def dat1 (c : Dev nD) : Dat τ (Elt F) Unit ℕ (UR sig nD τ) ℕ cfg1 c where
  A w := V c (Proc.devRef .tc (Pipeline.arrRef spec1 w))
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 (stAt1 V c t.val t.isLt)
  Φ t := Phi1 V c t.val (Nat.le_of_lt_succ t.isLt)
  q _ := fullShare
  owed _ := 0

/-- The region's arrays are entered at `V`. -/
theorem A1_eq (c : Dev nD) (w : Fin cfg1.W) : (dat1 V c).A w = V c (Proc.devRef .tc (Pipeline.arrRef spec1 w)) := by
  dsimp only [dat1]

/-- What the body leaves in the output window's buffer. -/
theorem after1_4 (c : Dev nD) (t : Fin cfg1.N) : (dat1 V c).after 4 t = out1 (stAt1 V c t.val t.isLt) := by dsimp only [dat1]

/-- The invariant before point `t`. -/
theorem Phi1_castSucc (c : Dev nD) (t : Fin cfg1.N) :
    (dat1 V c).Φ t.castSucc = Phi1 V c t.val (Nat.le_of_lt t.isLt) := by
  dsimp only [dat1]; exact Pipeline.Dat.Φ_castSucc (Phi1 V c) t

/-- What the body leaves in input window 0's buffer is its block, as it found it. -/
theorem after1_0 (c : Dev nD) (t : Fin cfg1.N) : (dat1 V c).after 0 t = iblk1 V c 0 t := by dsimp only [dat1]

/-- What the body leaves in input window 1's buffer is its block, as it found it. -/
theorem after1_1 (c : Dev nD) (t : Fin cfg1.N) : (dat1 V c).after 1 t = iblk1 V c 1 t := by dsimp only [dat1]

/-- What the body leaves in input window 2's buffer is its block, as it found it. -/
theorem after1_2 (c : Dev nD) (t : Fin cfg1.N) : (dat1 V c).after 2 t = iblk1 V c 2 t := by dsimp only [dat1]

/-- What the body leaves in input window 3's buffer is its block, as it found it. -/
theorem after1_3 (c : Dev nD) (t : Fin cfg1.N) : (dat1 V c).after 3 t = iblk1 V c 3 t := by dsimp only [dat1]

/-- Input window 0's buffer holds its block at every point. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A1_eq]; try rfl) t d).trans
      (by unfold Dat.fetched Dat.blockOf iblk1; rw [A1_eq]; try rfl)

/-- Input window 1's buffer holds its block at every point. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A1_eq]; try rfl) t d).trans
      (by unfold Dat.fetched Dat.blockOf iblk1; rw [A1_eq]; try rfl)

/-- Input window 2's buffer holds its block at every point. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A1_eq]; try rfl) t d).trans
      (by unfold Dat.fetched Dat.blockOf iblk1; rw [A1_eq]; try rfl)

/-- Input window 3's buffer holds its block at every point. -/
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A1_eq]; try rfl) t d).trans
      (by unfold Dat.fetched Dat.blockOf iblk1; rw [A1_eq]; try rfl)

/-- Window 0's buffer is left at its block. -/
theorem leaves1_0 (c : Dev nD) (t : Fin cfg1.N) :
    (dat1 V c).leavesExact 0 t = owns (c : Thread nD τ) (st1_0 t) fullShare (iblk1 V c 0 t) := by
  unfold Dat.leavesExact; rw [live1_0 t, after1_0]

/-- Window 1's buffer is left at its block. -/
theorem leaves1_1 (c : Dev nD) (t : Fin cfg1.N) :
    (dat1 V c).leavesExact 1 t = owns (c : Thread nD τ) (st1_1 t) fullShare (iblk1 V c 1 t) := by
  unfold Dat.leavesExact; rw [live1_1 t, after1_1]

/-- Window 2's buffer is left at its block. -/
theorem leaves1_2 (c : Dev nD) (t : Fin cfg1.N) :
    (dat1 V c).leavesExact 2 t = owns (c : Thread nD τ) (st1_2 t) fullShare (iblk1 V c 2 t) := by
  unfold Dat.leavesExact; rw [live1_2 t, after1_2]

/-- Window 3's buffer is left at its block. -/
theorem leaves1_3 (c : Dev nD) (t : Fin cfg1.N) :
    (dat1 V c).leavesExact 3 t = owns (c : Thread nD τ) (st1_3 t) fullShare (iblk1 V c 3 t) := by
  unfold Dat.leavesExact; rw [live1_3 t, after1_3]

/-- What the body is called with at point `t`. -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What it returns. -/
def post1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

/-- The body at any point. -/
theorem body1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1, before1_2, before1_3, leaves1_0, leaves1_1, leaves1_2, leaves1_3]
  rw [show (dat1 V c).owesAt () t.succ = (dat1 V c).owesAt () t.castSucc from rfl,
    show (dat1 V c).Φ t.succ = Phi1 V c (t.val + 1) t.isLt from rfl, Phi1_succ, Phi1_castSucc]
  have hN : t.val < 64 := lt_of_lt_of_eq t.isLt (show cfg1.N = 64 from N_1)
  have hp : t.val - 1 < cfg1.N := lt_of_le_of_lt (Nat.sub_le _ _) t.isLt
  by_cases h0 : t.val % 8 = 0
  · have hc1 : ¬cond1_1 (grid1.coords t) := fun h => absurd ((hcond1_1 t).mp h) (by omega)
    rw [Dat.leavesExact_idle (dat1 V c) 4 t (idle1_4 t hc1) (noFlush1_4 t hc1), stAt1_first V c t h0]
    refine (sep_mono (Phi1_any V c _ _) .rfl).trans ?_
    unfold scr1 scrAny1
    iintro ⟨⟨⟨⟨%e0, S0⟩, ⟨%e1, S1⟩, ⟨%e2, S2⟩⟩, Hg⟩, Ho, ⟨%d0, H0⟩, ⟨%d1, H1⟩, ⟨%d2, H2⟩, ⟨%d3, H3⟩, ⟨%d4, H4⟩⟩
    iapply (run1_A c (grid1.coords t) _ _ _ _ _ _ _ _ _ _ _ _ _ _ _ _ ((hcond1_0 t).mpr h0) hc1 (iblk1 V c 0 t) (iblk1 V c 1 t) (iblk1 V c 2 t) (iblk1 V c 3 t) _ Set.univ _)
    isplitl [H0]; · iexact H0
    isplitl [H1]; · iexact H1
    isplitl [H2]; · iexact H2
    isplitl [H3]; · iexact H3
    isplitl [H4]; · iexact H4
    isplitl [S0]; · iexists _; iexact S0
    isplitl [S1]; · iexists _; iexact S1
    isplitl [S2]; · iexists _; iexact S2
    iintro ⟨H0, H1, H2, H3, H4, S0, S1, S2⟩
    isplitl [S0 S1 S2 Hg]
    · isplitl [S0 S1 S2]
      · isplitl [S0]; · iexact S0
        isplitl [S1]; · iexact S1
        iexact S2
      iexact Hg
    isplitl [Ho]; · iexact Ho
    isplitl [H0]; · iexact H0
    isplitl [H1]; · iexact H1
    isplitl [H2]; · iexact H2
    isplitl [H3]; · iexact H3
    iexists _; iexact H4
  · have hc0 : ¬cond1_0 (grid1.coords t) := fun h => h0 ((hcond1_0 t).mp h)
    rw [Phi1_pos V c _ _ (fun h => h0 (by rw [h])) hp, stAt1_next V c t h0 hp]
    unfold scr1
    by_cases h1 : t.val % 8 = 7
    · rw [show (dat1 V c).leavesExact 4 t = owns (c : Thread nD τ) (st1_4 t) fullShare (out1 (stAt1 V c t.val t.isLt)) from by
        unfold Dat.leavesExact; rw [live1_4 t ((hcond1_1 t).mpr h1), after1_4], stAt1_next V c t h0 hp]
      iintro ⟨⟨⟨S0, S1, S2⟩, Hg⟩, Ho, ⟨%d0, H0⟩, ⟨%d1, H1⟩, ⟨%d2, H2⟩, ⟨%d3, H3⟩, ⟨%d4, H4⟩⟩
      iapply (run1_C c (grid1.coords t) _ _ _ _ _ _ _ _ _ _ _ _ _ _ _ _ hc0 ((hcond1_1 t).mpr h1) (iblk1 V c 0 t) (iblk1 V c 1 t) (iblk1 V c 2 t) (iblk1 V c 3 t) (stAt1 V c (t.val - 1) hp) Set.univ _)
      isplitl [H0]; · iexact H0
      isplitl [H1]; · iexact H1
      isplitl [H2]; · iexact H2
      isplitl [H3]; · iexact H3
      isplitl [H4]; · iexists _; iexact H4
      isplitl [S0]; · iexact S0
      isplitl [S1]; · iexact S1
      isplitl [S2]; · iexact S2
      iintro ⟨H0, H1, H2, H3, H4, S0, S1, S2⟩
      isplitl [S0 S1 S2 Hg]
      · isplitl [S0 S1 S2]
        · isplitl [S0]; · iexact S0
          isplitl [S1]; · iexact S1
          iexact S2
        iexact Hg
      isplitl [Ho]; · iexact Ho
      isplitl [H0]; · iexact H0
      isplitl [H1]; · iexact H1
      isplitl [H2]; · iexact H2
      isplitl [H3]; · iexact H3
      iexact H4
    · have hc1 : ¬cond1_1 (grid1.coords t) := fun h => h1 ((hcond1_1 t).mp h)
      rw [Dat.leavesExact_idle (dat1 V c) 4 t (idle1_4 t hc1) (noFlush1_4 t hc1)]
      iintro ⟨⟨⟨S0, S1, S2⟩, Hg⟩, Ho, ⟨%d0, H0⟩, ⟨%d1, H1⟩, ⟨%d2, H2⟩, ⟨%d3, H3⟩, ⟨%d4, H4⟩⟩
      iapply (run1_B c (grid1.coords t) _ _ _ _ _ _ _ _ _ _ _ _ _ _ _ _ hc0 hc1 (iblk1 V c 0 t) (iblk1 V c 1 t) (iblk1 V c 2 t) (iblk1 V c 3 t) _ (stAt1 V c (t.val - 1) hp) Set.univ _)
      isplitl [H0]; · iexact H0
      isplitl [H1]; · iexact H1
      isplitl [H2]; · iexact H2
      isplitl [H3]; · iexact H3
      isplitl [H4]; · iexact H4
      isplitl [S0]; · iexact S0
      isplitl [S1]; · iexact S1
      isplitl [S2]; · iexact S2
      iintro ⟨H0, H1, H2, H3, H4, S0, S1, S2⟩
      isplitl [S0 S1 S2 Hg]
      · isplitl [S0 S1 S2]
        · isplitl [S0]; · iexact S0
          isplitl [S1]; · iexact S1
          iexact S2
        iexact Hg
      isplitl [Ho]; · iexact Ho
      isplitl [H0]; · iexact H0
      isplitl [H1]; · iexact H1
      isplitl [H2]; · iexact H2
      isplitl [H3]; · iexact H3
      iexists _; iexact H4

/-- The body table's row at point `t` is the body at that point. -/
theorem row1 (t : Fin cfg1.N) :
    defs₀ (F := F) .tc cfg1.body (cfg1.bodyArgs t (cfg1.slots t)) = bodyAt1 t := by
  unfold defs₀; rw [Defs.onTc_tc]

/-- The body meets its obligation at every point. -/
theorem obligation1 (c : Dev nD) : BodyObligation (dat1 (F := F) V c) (defs₀ (F := F)) Variants.none () Set.univ := fun t => by
  rw [bigSep_W1, bigSep_W1, row1]
  exact triple_restated (body1 V c t) rfl .rfl fun _ => .rfl

/-- What the launch hands the region is the invariant before the first point. -/
theorem hin1 (c : Dev nD) : Pipeline.ΦA spec1 c ⊢ (dat1 (F := F) V c).Φ 0 := by
  rw [show (dat1 V c).Φ 0 = Phi1 V c 0 (Nat.zero_le _) from rfl, Phi1]
  try exact Idealize.SL.BI.Entails.refl _

/-- The invariant after the last point gives it back. -/
theorem hout1 (c : Dev nD) : (dat1 (F := F) V c).Φ (Fin.last cfg1.N) ⊢ Pipeline.ΦA spec1 c := by
  rw [show (dat1 V c).Φ (Fin.last cfg1.N) = Phi1 V c cfg1.N le_rfl from rfl]
  exact (Phi1_any V c _ _).trans (PhiA1_join c)

end Cert.KernelIdeal.Gat

end
-- ==== Proof.Gat.Reg2.lean ====
/- Region 2 of the launch, a projection: what its body does and the proof data its pipeline runs with. -/
module

public import proofs.«01_k».proof.Proof.Gat.Head
public import proofs.«01_k».proof.Proof.Gen.KernelIdeal.Points
public import proofs.«01_k».proof.Proof.Gen.KernelIdeal.Launch
public import Idealize.ShloMosaic.Lib.Pipeline.ReadBack
public import Idealize.ShloMosaic.Lib.Pipeline.ValueKit.Acc
public import Idealize.ShloMosaic.Lib.Ring
public import Idealize.ShloMosaic.Lib.Tactic
public import Idealize.ShloMosaic.Lib.WordCmp

@[expose] public section

set_option maxRecDepth 16384

noncomputable section

namespace Cert.KernelIdeal.Gat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The projection's body on whole buffers: the inputs stay, and the outputs end at the three payloads. -/
theorem run2 (c : Dev nD) (E : Set ℕ) (i : grid2.Coords) (arg1 : Memref sig .tc .vmem S512x512 .f32) (harg1 : arg1.IsWhole) (arg2 : Memref sig .tc .vmem S512x128 .f32) (harg2 : arg2.IsWhole) (arg3 : Memref sig .tc .vmem S128x1 .f32) (harg3 : arg3.IsWhole) (arg4 : Memref sig .tc .vmem S128x1 .f32) (harg4 : arg4.IsWhole) (arg5 : Memref sig .tc .vmem S512x128 .f32) (harg5 : arg5.IsWhole) (arg6 : Memref sig .tc .vmem S512x1 .f32) (harg6 : arg6.IsWhole) (arg7 : Memref sig .tc .vmem S512x1 .f32) (harg7 : arg7.IsWhole)
    (x0 : Vec F S512x512 .f32) (x1 : Vec F S512x128 .f32) (x2 : Vec F S128x1 .f32) (x3 : Vec F S128x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k2_pay1 x0 x1) ∗ owns (c : Thread nD τ) arg6 fullShare (k2_pay2 x0 x1 x2) ∗ owns (c : Thread nD τ) arg7 fullShare (k2_pay3 x0 x1 x3)) -∗ K ⟨⟩))
      ⊢ wp frame (wpE (defs₀ (F := F)) Variants.none c none) E (cc2__project_body i arg1 harg1 arg2 harg2 arg3 harg3 arg4 harg4 arg5 harg5 arg6 harg6 arg7 harg7) K := by
  simp only [cc2__project_body_eq_skeleton]; unfold cc2__project_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (View.cover_of_tiled _ S512x128.size (by rfl)), View.canon_cons_unit_lit (S := S512x128) _ _ _ z2]
    simp only [View.readAt_eq_ld, View.ld_unit_lit (S := S512x128) _ _ z2, View.ld_unit_lit (S := S512x512) _ _ z2]
  isplitl [H5]
  · iexists _; isplitr
    swap; · iexact H5
    ipureintro
    rw [View.read_writes_eq_canon _ _ _ (View.cover_of_tiled _ S512x1.size (by rfl)), View.canon_cons_unit_lit (S := S512x1) _ _ _ z2]
    simp only [View.readAt_eq_ld, View.ld_unit_lit (S := S128x1) _ _ z2, View.ld_unit_lit (S := S512x128) _ _ z2, View.ld_unit_lit (S := S512x512) _ _ z2]
  · iexists _; isplitr
    swap; · iexact H6
    ipureintro
    rw [View.read_writes_eq_canon _ _ _ (View.cover_of_tiled _ S512x1.size (by rfl)), View.canon_cons_unit_lit (S := S512x1) _ _ _ z2]
    simp only [View.readAt_eq_ld, View.ld_unit_lit (S := S128x1) _ _ z2, View.ld_unit_lit (S := S512x128) _ _ z2, View.ld_unit_lit (S := S512x512) _ _ z2]

variable (V : Dev nD → Valuation τ sig (Elt F))

/-- The block of window `w` at point `t`, read off the contents the region is entered with. -/
def iblk2 (c : Dev nD) (w : Fin cfg2.W) (t : Fin cfg2.N) : ((cfg2.win w).xblock (cfg2.grid.coords t)).Idx → Elt F (cfg2.win w).elt :=
  ((cfg2.win w).blk t).view.read (Elt F) (V c (Proc.devRef .tc (Pipeline.arrRef spec2 w)))

/-- The region's proof data: the arrays as it finds them, each output buffer at its payload of the blocks. -/
def dat2 (c : Dev nD) : Dat τ (Elt F) Unit ℕ (UR sig nD τ) ℕ cfg2 c where
  A w := V c (Proc.devRef .tc (Pipeline.arrRef spec2 w))
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (k2_pay1 (iblk2 V c 0 t) (iblk2 V c 1 t))
    | ⟨5, _⟩ => (k2_pay2 (iblk2 V c 0 t) (iblk2 V c 1 t) (iblk2 V c 2 t))
    | ⟨6, _⟩ => (k2_pay3 (iblk2 V c 0 t) (iblk2 V c 1 t) (iblk2 V c 3 t))
  Φ _ := Pipeline.ΦA spec2 c
  q _ := fullShare
  owed _ := 0

/-- The region's arrays are entered at `V`. -/
theorem A2_eq (c : Dev nD) (w : Fin cfg2.W) : (dat2 V c).A w = V c (Proc.devRef .tc (Pipeline.arrRef spec2 w)) := by
  dsimp only [dat2]

/-- What the body leaves in input window 0's buffer is its block, as it found it. -/
theorem after2_0 (c : Dev nD) (t : Fin cfg2.N) : (dat2 V c).after 0 t = iblk2 V c 0 t := by dsimp only [dat2]

/-- What the body leaves in input window 1's buffer is its block, as it found it. -/
theorem after2_1 (c : Dev nD) (t : Fin cfg2.N) : (dat2 V c).after 1 t = iblk2 V c 1 t := by dsimp only [dat2]

/-- What the body leaves in input window 2's buffer is its block, as it found it. -/
theorem after2_2 (c : Dev nD) (t : Fin cfg2.N) : (dat2 V c).after 2 t = iblk2 V c 2 t := by dsimp only [dat2]

/-- What the body leaves in input window 3's buffer is its block, as it found it. -/
theorem after2_3 (c : Dev nD) (t : Fin cfg2.N) : (dat2 V c).after 3 t = iblk2 V c 3 t := by dsimp only [dat2]

/-- Input window 0's buffer holds its block at every point. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A2_eq]; try rfl) t d).trans
      (by unfold Dat.fetched Dat.blockOf iblk2; rw [A2_eq]; try rfl)

/-- Input window 1's buffer holds its block at every point. -/
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A2_eq]; try rfl) t d).trans
      (by unfold Dat.fetched Dat.blockOf iblk2; rw [A2_eq]; try rfl)

/-- Input window 2's buffer holds its block at every point. -/
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A2_eq]; try rfl) t d).trans
      (by unfold Dat.fetched Dat.blockOf iblk2; rw [A2_eq]; try rfl)

/-- Input window 3's buffer holds its block at every point. -/
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A2_eq]; try rfl) t d).trans
      (by unfold Dat.fetched Dat.blockOf iblk2; rw [A2_eq]; try rfl)

/-- What the body leaves in output window 4's buffer. -/
theorem after2_4 (c : Dev nD) (t : Fin cfg2.N) : (dat2 V c).after 4 t = (k2_pay1 (iblk2 V c 0 t) (iblk2 V c 1 t)) := by dsimp only [dat2]

/-- What the body leaves in output window 5's buffer. -/
theorem after2_5 (c : Dev nD) (t : Fin cfg2.N) : (dat2 V c).after 5 t = (k2_pay2 (iblk2 V c 0 t) (iblk2 V c 1 t) (iblk2 V c 2 t)) := by dsimp only [dat2]

/-- What the body leaves in output window 6's buffer. -/
theorem after2_6 (c : Dev nD) (t : Fin cfg2.N) : (dat2 V c).after 6 t = (k2_pay3 (iblk2 V c 0 t) (iblk2 V c 1 t) (iblk2 V c 3 t)) := by dsimp only [dat2]

/-- What the body is called with at point `t`. -/
def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- What it returns. -/
def post2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point. -/
theorem body2 (c : Dev nD) (t : Fin cfg2.N) :
    pre2 V c t ⊢ wp frame (wpE (defs₀ (F := F)) Variants.none c none) Set.univ (bodyAt2 t) (fun _ => post2 V c t) := by
  unfold pre2 post2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (run2 c Set.univ (grid2.coords t) _ _ _ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t` is the body at that point. -/
theorem row2 (t : Fin cfg2.N) :
    defs₀ (F := F) .tc cfg2.body (cfg2.bodyArgs t (cfg2.slots t)) = bodyAt2 t := by
  unfold defs₀; rw [Defs.onTc_tc]

/-- The body meets its obligation at every point. -/
theorem obligation2 (c : Dev nD) : BodyObligation (dat2 (F := F) V c) (defs₀ (F := F)) Variants.none () Set.univ := fun t => by
  rw [bigSep_W2, bigSep_W2, row2]
  exact triple_restated (body2 V c t) rfl .rfl fun _ => .rfl

end Cert.KernelIdeal.Gat

end
-- ==== Proof.Gat.Reg3.lean ====
/- Region 3 of the launch, an attention layer: the state its points carry and the proof data its pipeline runs with. -/
module

public import proofs.«01_k».proof.Proof.Gat.Run3
public import proofs.«01_k».proof.Proof.Gen.KernelIdeal.Points
public import proofs.«01_k».proof.Proof.Gen.KernelIdeal.Launch
public import Idealize.ShloMosaic.Lib.Pipeline.ReadBack
public import Idealize.ShloMosaic.Lib.Pipeline.ValueKit.Acc
public import Idealize.ShloMosaic.Lib.Ring
public import Idealize.ShloMosaic.Lib.Tactic
public import Idealize.ShloMosaic.Lib.WordCmp

@[expose] public section

set_option maxRecDepth 16384

noncomputable section

namespace Cert.KernelIdeal.Gat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-- The block of window `w` at point `t`, read off the contents the region is entered with. -/
def iblk3 (c : Dev nD) (w : Fin cfg3.W) (t : Fin cfg3.N) : ((cfg3.win w).xblock (cfg3.grid.coords t)).Idx → Elt F (cfg3.win w).elt :=
  ((cfg3.win w).blk t).view.read (Elt F) (V c (Proc.devRef .tc (Pipeline.arrRef spec3 w)))

/-- A row of blocks starts at the points divisible by eight. -/
theorem hcond3_0 : ∀ t : Fin grid3.N, cond3_0 (grid3.coords t) ↔ t.val % 8 = 0 :=
  (fun t => by
    have ht : t.val < 64 := Nat.lt_of_lt_of_eq t.isLt N_3
    have e0 : (grid3.coords t 0).val = t.val / 8 % 8 := Pipeline.Grid.coords_val t 0 (by decide) rfl
    have e1 : (grid3.coords t 1).val = t.val / 1 % 8 := Pipeline.Grid.coords_val t 1 (by decide) rfl
    simp only [cond3_0, e0, e1]
    word_cmp)

/-- It ends at the points that leave seven on division by eight. -/
theorem hcond3_1 : ∀ t : Fin grid3.N, cond3_1 (grid3.coords t) ↔ t.val % 8 = 7 :=
  (fun t => by
    have ht : t.val < 64 := Nat.lt_of_lt_of_eq t.isLt N_3
    have e0 : (grid3.coords t 0).val = t.val / 8 % 8 := Pipeline.Grid.coords_val t 0 (by decide) rfl
    have e1 : (grid3.coords t 1).val = t.val / 1 % 8 := Pipeline.Grid.coords_val t 1 (by decide) rfl
    simp only [cond3_1, k3_cond2, e0, e1]
    word_cmp)

/-- Window 0 is used at every point. -/
theorem live3_0 (t : Fin cfg3.N) : cfg3.idle 0 (grid3.coords t) = false := rfl

/-- Window 1 is used at every point. -/
theorem live3_1 (t : Fin cfg3.N) : cfg3.idle 1 (grid3.coords t) = false := rfl

/-- Window 2 is used at every point. -/
theorem live3_2 (t : Fin cfg3.N) : cfg3.idle 2 (grid3.coords t) = false := rfl

/-- Window 3 is used at every point. -/
theorem live3_3 (t : Fin cfg3.N) : cfg3.idle 3 (grid3.coords t) = false := rfl

/-- The output window is idle until the last block of a row. -/
theorem idle3_4 : ∀ t : Fin cfg3.N, ¬cond3_1 (grid3.coords t) → cfg3.idle 4 (grid3.coords t) = true := by decide +kernel

/-- It is not written back until then. -/
theorem noFlush3_4 : ∀ t : Fin cfg3.N, ¬cond3_1 (grid3.coords t) → (cfg3.win 4).flush t = false := by decide +kernel

/-- At the last block of a row it is used. -/
theorem live3_4 : ∀ t : Fin cfg3.N, cond3_1 (grid3.coords t) → cfg3.idle 4 (grid3.coords t) = false := by decide +kernel

/-- Carried buffer 0, whole. -/
abbrev sc3_0 := (Memref.whole cc3_scratch0)

/-- Carried buffer 1, whole. -/
abbrev sc3_1 := (Memref.whole cc3_scratch1)

/-- Carried buffer 2, whole. -/
abbrev sc3_2 := (Memref.whole cc3_scratch2)

/-- The state after point `n`: a row of blocks starts from the initial state, every other block from the state before it. -/
def stAt3 (c : Dev nD) : (n : ℕ) → n < cfg3.N → St3 F
  | 0, h => step3 (iblk3 V c 0 ⟨0, h⟩) (iblk3 V c 1 ⟨0, h⟩) (iblk3 V c 2 ⟨0, h⟩) (iblk3 V c 3 ⟨0, h⟩) init3
  | n + 1, h => step3 (iblk3 V c 0 ⟨n + 1, h⟩) (iblk3 V c 1 ⟨n + 1, h⟩) (iblk3 V c 2 ⟨n + 1, h⟩) (iblk3 V c 3 ⟨n + 1, h⟩) (if (n + 1) % 8 = 0 then init3 else stAt3 c n (Nat.lt_of_succ_lt h))

/-- The state after the first block of a row. -/
theorem stAt3_first (c : Dev nD) (t : Fin cfg3.N) (h0 : t.val % 8 = 0) :
    stAt3 V c t.val t.isLt = step3 (iblk3 V c 0 t) (iblk3 V c 1 t) (iblk3 V c 2 t) (iblk3 V c 3 t) init3 := by
  obtain ⟨n, hn⟩ := t
  cases n with
  | zero => rw [stAt3]
  | succ n => rw [stAt3, if_pos h0]

/-- The state after a later block. -/
theorem stAt3_next (c : Dev nD) (t : Fin cfg3.N) (h0 : ¬t.val % 8 = 0) (h1 : t.val - 1 < cfg3.N) :
    stAt3 V c t.val t.isLt = step3 (iblk3 V c 0 t) (iblk3 V c 1 t) (iblk3 V c 2 t) (iblk3 V c 3 t) (stAt3 V c (t.val - 1) h1) := by
  obtain ⟨n, hn⟩ := t
  cases n with
  | zero => exact absurd rfl h0
  | succ n => rw [stAt3, if_neg h0]; rfl

/-- The three carried buffers at a state. -/
def scr3 (c : Dev nD) (s : St3 F) : sProp 𝕄 :=
  iprop(owns (c : Thread nD τ) sc3_0 fullShare s.1 ∗ owns (c : Thread nD τ) sc3_1 fullShare s.2.1 ∗ owns (c : Thread nD τ) sc3_2 fullShare s.2.2)

/-- The three carried buffers at anything. -/
def scrAny3 (c : Dev nD) : sProp 𝕄 :=
  iprop((∃ d, owns (c : Thread nD τ) sc3_0 fullShare d) ∗ (∃ d, owns (c : Thread nD τ) sc3_1 fullShare d) ∗ (∃ d, owns (c : Thread nD τ) sc3_2 fullShare d))

/-- What else the region holds: the other scoped buffers and the generator's register. -/
def rest3 (c : Dev nD) : sProp 𝕄 :=
  iprop(Pipeline.scopedRestBut (Ix := Unit) (Name := ℕ) (U := UR sig nD τ) (Lvl := ℕ) (Val := Elt F) spec3 c [cc3_scratch0, cc3_scratch1, cc3_scratch2] ∗ ∃ w, prngReg c w)

/-- The launch's scoped resources are the carried buffers at anything and the rest. -/
theorem PhiA3_split (c : Dev nD) : (Pipeline.ΦA spec3 c : sProp 𝕄) ⊢ iprop(scrAny3 (F := F) c ∗ rest3 (F := F) c) := by
  unfold Pipeline.ΦA scrAny3 rest3
  rw [scopedRest3_split]
  simp only [sc3_0, sc3_1, sc3_2, owns_whole]
  iintro ⟨⟨Hs, Hr⟩, Hg⟩
  isplitl [Hs]; · iexact Hs
  isplitl [Hr]; · iexact Hr
  iexact Hg

/-- And back. -/
theorem PhiA3_join (c : Dev nD) : iprop(scrAny3 (F := F) c ∗ rest3 (F := F) c) ⊢ (Pipeline.ΦA spec3 c : sProp 𝕄) := by
  unfold Pipeline.ΦA scrAny3 rest3
  rw [scopedRest3_split]
  simp only [sc3_0, sc3_1, sc3_2, owns_whole]
  iintro ⟨Hs, Hr, Hg⟩
  isplitl [Hs Hr]
  · isplitl [Hs]; · iexact Hs
    iexact Hr
  iexact Hg

/-- Buffers at a state are buffers at something. -/
theorem scr3_any (c : Dev nD) (s : St3 F) : scr3 c s ⊢ scrAny3 (F := F) c := by
  unfold scr3 scrAny3
  iintro ⟨H0, H1, H2⟩
  isplitl [H0]; · iexists _; iexact H0
  isplitl [H1]; · iexists _; iexact H1
  iexists _; iexact H2

/-- The invariant before point `n`: at the start the carried buffers hold anything, afterwards the state the points before left. -/
def Phi3 (c : Dev nD) : (n : ℕ) → n ≤ cfg3.N → sProp 𝕄
  | 0, _ => Pipeline.ΦA spec3 c
  | n + 1, h => iprop(scr3 c (stAt3 V c n h) ∗ rest3 (F := F) c)

/-- After a point. -/
theorem Phi3_succ (c : Dev nD) (n : ℕ) (hn : n < cfg3.N) :
    Phi3 V c (n + 1) hn = iprop(scr3 c (stAt3 V c n hn) ∗ rest3 (F := F) c) := by rw [Phi3]

/-- Before any point but the first. -/
theorem Phi3_pos (c : Dev nD) (n : ℕ) (h : n ≤ cfg3.N) (hz : n ≠ 0) (h1 : n - 1 < cfg3.N) :
    Phi3 V c n h = iprop(scr3 c (stAt3 V c (n - 1) h1) ∗ rest3 (F := F) c) := by
  cases n with
  | zero => exact absurd rfl hz
  | succ n => rw [Phi3]; rfl

/-- At any time the carried buffers hold something. -/
theorem Phi3_any (c : Dev nD) (n : ℕ) (h : n ≤ cfg3.N) :
    Phi3 V c n h ⊢ iprop(scrAny3 (F := F) c ∗ rest3 (F := F) c) := by
  cases n with
  | zero => rw [Phi3]; exact PhiA3_split c
  | succ n => rw [Phi3]; exact sep_mono (scr3_any c _) .rfl

/-- The region's proof data: the arrays as it finds them, the output buffer at what the finished state gives. -/
def dat3 (c : Dev nD) : Dat τ (Elt F) Unit ℕ (UR sig nD τ) ℕ cfg3 c where
  A w := V c (Proc.devRef .tc (Pipeline.arrRef spec3 w))
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3 (stAt3 V c t.val t.isLt)
  Φ t := Phi3 V c t.val (Nat.le_of_lt_succ t.isLt)
  q _ := fullShare
  owed _ := 0

/-- The region's arrays are entered at `V`. -/
theorem A3_eq (c : Dev nD) (w : Fin cfg3.W) : (dat3 V c).A w = V c (Proc.devRef .tc (Pipeline.arrRef spec3 w)) := by
  dsimp only [dat3]

/-- What the body leaves in the output window's buffer. -/
theorem after3_4 (c : Dev nD) (t : Fin cfg3.N) : (dat3 V c).after 4 t = out3 (stAt3 V c t.val t.isLt) := by dsimp only [dat3]

/-- The invariant before point `t`. -/
theorem Phi3_castSucc (c : Dev nD) (t : Fin cfg3.N) :
    (dat3 V c).Φ t.castSucc = Phi3 V c t.val (Nat.le_of_lt t.isLt) := by
  dsimp only [dat3]; exact Pipeline.Dat.Φ_castSucc (Phi3 V c) t

/-- What the body leaves in input window 0's buffer is its block, as it found it. -/
theorem after3_0 (c : Dev nD) (t : Fin cfg3.N) : (dat3 V c).after 0 t = iblk3 V c 0 t := by dsimp only [dat3]

/-- What the body leaves in input window 1's buffer is its block, as it found it. -/
theorem after3_1 (c : Dev nD) (t : Fin cfg3.N) : (dat3 V c).after 1 t = iblk3 V c 1 t := by dsimp only [dat3]

/-- What the body leaves in input window 2's buffer is its block, as it found it. -/
theorem after3_2 (c : Dev nD) (t : Fin cfg3.N) : (dat3 V c).after 2 t = iblk3 V c 2 t := by dsimp only [dat3]

/-- What the body leaves in input window 3's buffer is its block, as it found it. -/
theorem after3_3 (c : Dev nD) (t : Fin cfg3.N) : (dat3 V c).after 3 t = iblk3 V c 3 t := by dsimp only [dat3]

/-- Input window 0's buffer holds its block at every point. -/
theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A3_eq]; try rfl) t d).trans
      (by unfold Dat.fetched Dat.blockOf iblk3; rw [A3_eq]; try rfl)

/-- Input window 1's buffer holds its block at every point. -/
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A3_eq]; try rfl) t d).trans
      (by unfold Dat.fetched Dat.blockOf iblk3; rw [A3_eq]; try rfl)

/-- Input window 2's buffer holds its block at every point. -/
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A3_eq]; try rfl) t d).trans
      (by unfold Dat.fetched Dat.blockOf iblk3; rw [A3_eq]; try rfl)

/-- Input window 3's buffer holds its block at every point. -/
theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A3_eq]; try rfl) t d).trans
      (by unfold Dat.fetched Dat.blockOf iblk3; rw [A3_eq]; try rfl)

/-- Window 0's buffer is left at its block. -/
theorem leaves3_0 (c : Dev nD) (t : Fin cfg3.N) :
    (dat3 V c).leavesExact 0 t = owns (c : Thread nD τ) (st3_0 t) fullShare (iblk3 V c 0 t) := by
  unfold Dat.leavesExact; rw [live3_0 t, after3_0]

/-- Window 1's buffer is left at its block. -/
theorem leaves3_1 (c : Dev nD) (t : Fin cfg3.N) :
    (dat3 V c).leavesExact 1 t = owns (c : Thread nD τ) (st3_1 t) fullShare (iblk3 V c 1 t) := by
  unfold Dat.leavesExact; rw [live3_1 t, after3_1]

/-- Window 2's buffer is left at its block. -/
theorem leaves3_2 (c : Dev nD) (t : Fin cfg3.N) :
    (dat3 V c).leavesExact 2 t = owns (c : Thread nD τ) (st3_2 t) fullShare (iblk3 V c 2 t) := by
  unfold Dat.leavesExact; rw [live3_2 t, after3_2]

/-- Window 3's buffer is left at its block. -/
theorem leaves3_3 (c : Dev nD) (t : Fin cfg3.N) :
    (dat3 V c).leavesExact 3 t = owns (c : Thread nD τ) (st3_3 t) fullShare (iblk3 V c 3 t) := by
  unfold Dat.leavesExact; rw [live3_3 t, after3_3]

/-- What the body is called with at point `t`. -/
def pre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- What it returns. -/
def post3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

/-- The body at any point. -/
theorem body3 (c : Dev nD) (t : Fin cfg3.N) :
    pre3 V c t ⊢ wp frame (wpE (defs₀ (F := F)) Variants.none c none) Set.univ (bodyAt3 t) (fun _ => post3 V c t) := by
  unfold pre3 post3 bodyAt3
  simp only [before3_0, before3_1, before3_2, before3_3, leaves3_0, leaves3_1, leaves3_2, leaves3_3]
  rw [show (dat3 V c).owesAt () t.succ = (dat3 V c).owesAt () t.castSucc from rfl,
    show (dat3 V c).Φ t.succ = Phi3 V c (t.val + 1) t.isLt from rfl, Phi3_succ, Phi3_castSucc]
  have hN : t.val < 64 := lt_of_lt_of_eq t.isLt (show cfg3.N = 64 from N_3)
  have hp : t.val - 1 < cfg3.N := lt_of_le_of_lt (Nat.sub_le _ _) t.isLt
  by_cases h0 : t.val % 8 = 0
  · have hc1 : ¬cond3_1 (grid3.coords t) := fun h => absurd ((hcond3_1 t).mp h) (by omega)
    rw [Dat.leavesExact_idle (dat3 V c) 4 t (idle3_4 t hc1) (noFlush3_4 t hc1), stAt3_first V c t h0]
    refine (sep_mono (Phi3_any V c _ _) .rfl).trans ?_
    unfold scr3 scrAny3
    iintro ⟨⟨⟨⟨%e0, S0⟩, ⟨%e1, S1⟩, ⟨%e2, S2⟩⟩, Hg⟩, Ho, ⟨%d0, H0⟩, ⟨%d1, H1⟩, ⟨%d2, H2⟩, ⟨%d3, H3⟩, ⟨%d4, H4⟩⟩
    iapply (run3_A c (grid3.coords t) _ _ _ _ _ _ _ _ _ _ _ _ _ _ _ _ ((hcond3_0 t).mpr h0) hc1 (iblk3 V c 0 t) (iblk3 V c 1 t) (iblk3 V c 2 t) (iblk3 V c 3 t) _ Set.univ _)
    isplitl [H0]; · iexact H0
    isplitl [H1]; · iexact H1
    isplitl [H2]; · iexact H2
    isplitl [H3]; · iexact H3
    isplitl [H4]; · iexact H4
    isplitl [S0]; · iexists _; iexact S0
    isplitl [S1]; · iexists _; iexact S1
    isplitl [S2]; · iexists _; iexact S2
    iintro ⟨H0, H1, H2, H3, H4, S0, S1, S2⟩
    isplitl [S0 S1 S2 Hg]
    · isplitl [S0 S1 S2]
      · isplitl [S0]; · iexact S0
        isplitl [S1]; · iexact S1
        iexact S2
      iexact Hg
    isplitl [Ho]; · iexact Ho
    isplitl [H0]; · iexact H0
    isplitl [H1]; · iexact H1
    isplitl [H2]; · iexact H2
    isplitl [H3]; · iexact H3
    iexists _; iexact H4
  · have hc0 : ¬cond3_0 (grid3.coords t) := fun h => h0 ((hcond3_0 t).mp h)
    rw [Phi3_pos V c _ _ (fun h => h0 (by rw [h])) hp, stAt3_next V c t h0 hp]
    unfold scr3
    by_cases h1 : t.val % 8 = 7
    · rw [show (dat3 V c).leavesExact 4 t = owns (c : Thread nD τ) (st3_4 t) fullShare (out3 (stAt3 V c t.val t.isLt)) from by
        unfold Dat.leavesExact; rw [live3_4 t ((hcond3_1 t).mpr h1), after3_4], stAt3_next V c t h0 hp]
      iintro ⟨⟨⟨S0, S1, S2⟩, Hg⟩, Ho, ⟨%d0, H0⟩, ⟨%d1, H1⟩, ⟨%d2, H2⟩, ⟨%d3, H3⟩, ⟨%d4, H4⟩⟩
      iapply (run3_C c (grid3.coords t) _ _ _ _ _ _ _ _ _ _ _ _ _ _ _ _ hc0 ((hcond3_1 t).mpr h1) (iblk3 V c 0 t) (iblk3 V c 1 t) (iblk3 V c 2 t) (iblk3 V c 3 t) (stAt3 V c (t.val - 1) hp) Set.univ _)
      isplitl [H0]; · iexact H0
      isplitl [H1]; · iexact H1
      isplitl [H2]; · iexact H2
      isplitl [H3]; · iexact H3
      isplitl [H4]; · iexists _; iexact H4
      isplitl [S0]; · iexact S0
      isplitl [S1]; · iexact S1
      isplitl [S2]; · iexact S2
      iintro ⟨H0, H1, H2, H3, H4, S0, S1, S2⟩
      isplitl [S0 S1 S2 Hg]
      · isplitl [S0 S1 S2]
        · isplitl [S0]; · iexact S0
          isplitl [S1]; · iexact S1
          iexact S2
        iexact Hg
      isplitl [Ho]; · iexact Ho
      isplitl [H0]; · iexact H0
      isplitl [H1]; · iexact H1
      isplitl [H2]; · iexact H2
      isplitl [H3]; · iexact H3
      iexact H4
    · have hc1 : ¬cond3_1 (grid3.coords t) := fun h => h1 ((hcond3_1 t).mp h)
      rw [Dat.leavesExact_idle (dat3 V c) 4 t (idle3_4 t hc1) (noFlush3_4 t hc1)]
      iintro ⟨⟨⟨S0, S1, S2⟩, Hg⟩, Ho, ⟨%d0, H0⟩, ⟨%d1, H1⟩, ⟨%d2, H2⟩, ⟨%d3, H3⟩, ⟨%d4, H4⟩⟩
      iapply (run3_B c (grid3.coords t) _ _ _ _ _ _ _ _ _ _ _ _ _ _ _ _ hc0 hc1 (iblk3 V c 0 t) (iblk3 V c 1 t) (iblk3 V c 2 t) (iblk3 V c 3 t) _ (stAt3 V c (t.val - 1) hp) Set.univ _)
      isplitl [H0]; · iexact H0
      isplitl [H1]; · iexact H1
      isplitl [H2]; · iexact H2
      isplitl [H3]; · iexact H3
      isplitl [H4]; · iexact H4
      isplitl [S0]; · iexact S0
      isplitl [S1]; · iexact S1
      isplitl [S2]; · iexact S2
      iintro ⟨H0, H1, H2, H3, H4, S0, S1, S2⟩
      isplitl [S0 S1 S2 Hg]
      · isplitl [S0 S1 S2]
        · isplitl [S0]; · iexact S0
          isplitl [S1]; · iexact S1
          iexact S2
        iexact Hg
      isplitl [Ho]; · iexact Ho
      isplitl [H0]; · iexact H0
      isplitl [H1]; · iexact H1
      isplitl [H2]; · iexact H2
      isplitl [H3]; · iexact H3
      iexists _; iexact H4

/-- The body table's row at point `t` is the body at that point. -/
theorem row3 (t : Fin cfg3.N) :
    defs₀ (F := F) .tc cfg3.body (cfg3.bodyArgs t (cfg3.slots t)) = bodyAt3 t := by
  unfold defs₀; rw [Defs.onTc_tc]

/-- The body meets its obligation at every point. -/
theorem obligation3 (c : Dev nD) : BodyObligation (dat3 (F := F) V c) (defs₀ (F := F)) Variants.none () Set.univ := fun t => by
  rw [bigSep_W3, bigSep_W3, row3]
  exact triple_restated (body3 V c t) rfl .rfl fun _ => .rfl

/-- What the launch hands the region is the invariant before the first point. -/
theorem hin3 (c : Dev nD) : Pipeline.ΦA spec3 c ⊢ (dat3 (F := F) V c).Φ 0 := by
  rw [show (dat3 V c).Φ 0 = Phi3 V c 0 (Nat.zero_le _) from rfl, Phi3]
  try exact Idealize.SL.BI.Entails.refl _

/-- The invariant after the last point gives it back. -/
theorem hout3 (c : Dev nD) : (dat3 (F := F) V c).Φ (Fin.last cfg3.N) ⊢ Pipeline.ΦA spec3 c := by
  rw [show (dat3 V c).Φ (Fin.last cfg3.N) = Phi3 V c cfg3.N le_rfl from rfl]
  exact (Phi3_any V c _ _).trans (PhiA3_join c)

end Cert.KernelIdeal.Gat

end
-- ==== Proof.Gat.Run.lean ====
/- The whole launch: four regions and the host operations around them, run to the contents every buffer ends with. -/
module

public import proofs.«01_k».proof.Proof.Gat.Reg0
public import proofs.«01_k».proof.Proof.Gat.Reg1
public import proofs.«01_k».proof.Proof.Gat.Reg2
public import proofs.«01_k».proof.Proof.Gat.Reg3
public import proofs.«01_k».proof.Proof.Gen.KernelIdeal.Regions
public import Idealize.ShloMosaic.Lib.Pipeline.RegionArraysS
public import proofs.«01_k».proof.Proof.Gen.KernelIdeal.Points
public import proofs.«01_k».proof.Proof.Gen.KernelIdeal.Launch
public import Idealize.ShloMosaic.Lib.Pipeline.ReadBack
public import Idealize.ShloMosaic.Lib.Pipeline.ValueKit.Acc
public import Idealize.ShloMosaic.Lib.Ring
public import Idealize.ShloMosaic.Lib.Tactic
public import Idealize.ShloMosaic.Lib.WordCmp

@[expose] public section

set_option maxRecDepth 16384

noncomputable section

namespace Cert.KernelIdeal.Gat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg afterRegion)

variable (m : (ℓ : Loc nD τ sig) → Buf (Elt F) ℓ)

/-- The buffers when the first region starts. -/
def A1 (c : Dev nD) : Valuation τ sig (Elt F) := StableHlo.after hostOps0 (V0 m c)
/-- The buffers after the first projection. -/
def A2 (c : Dev nD) : Valuation τ sig (Elt F) := afterRegion (dat0 (A1 m) c) (A1 m c)
/-- The buffers after the first attention layer. -/
def A3 (c : Dev nD) : Valuation τ sig (Elt F) := afterRegion (dat1 (A2 m) c) (A2 m c)
/-- The buffers when the second projection starts. -/
def A4 (c : Dev nD) : Valuation τ sig (Elt F) := StableHlo.after hostOps2 (A3 m c)
/-- The buffers after the second projection. -/
def A5 (c : Dev nD) : Valuation τ sig (Elt F) := afterRegion (dat2 (A4 m) c) (A4 m c)
/-- The buffers after the second attention layer. -/
def A6 (c : Dev nD) : Valuation τ sig (Elt F) := afterRegion (dat3 (A5 m) c) (A5 m c)

/-- The four regions' proof data. -/
def pdats : (p : Fin 4) → (c : Dev nD) → Dat τ (Elt F) Unit ℕ (UR sig nD τ) ℕ (cfgs p) c
  | 0 => fun c => dat0 (A1 m) c
  | 1 => fun c => dat1 (A2 m) c
  | 2 => fun c => dat2 (A4 m) c
  | 3 => fun c => dat3 (A5 m) c

/-- Every wait of a core is at the one index. -/
abbrev Lx : GSem nD τ sig → Finset Unit := fun g => if g.1.2 = .tc then Finset.univ else ∅

/-- All at one level. -/
abbrev lvx : GSem nD τ sig → Unit → ℕ := fun _ _ => 0

/-- Nothing is owed. -/
abbrev Dx : Dev nD → CellTallies nD τ sig Unit := fun _ => 0

/-- The generator's register at anything. -/
abbrev Gx (c : Dev nD) : sProp 𝕄 := iprop(∃ r, prngReg c r)

/-- What rides beside the buffers between items: a core that owes nothing and its generator's register. -/
abbrev Ex (c : Dev nD) : sProp 𝕄 := iprop((∃ Wd, owes (c : Thread nD τ) (Dx c) Wd) ∗ Gx (F := F) c ∗ BI.emp)

/-- The buffers of the launch that outlive a region. -/
abbrev Sx : Finset (DevRef τ sig) := Pipeline.ucRefs τ sig

/-- A core's thread state: the launch's buffers at a valuation beside what rides along. -/
abbrev Tx (A : Dev nD → Valuation τ sig (Elt F)) (c : Dev nD) : sProp 𝕄 := iprop(StableHlo.held (c : Thread nD τ) Sx (A c) ∗ Ex (F := F) c)

/-- At the end a core owes nothing. -/
theorem Ex_owes (c : Dev nD) : Ex (F := F) c ⊢ (iprop(∃ W, owes (c : Thread nD τ) (0 : CellTallies nD τ sig Unit) W) : sProp 𝕄) := by
  iintro ⟨HO, -, -⟩
  iexact HO

/-- The levels leave room for every region's waits. -/
theorem cut (p : Fin 4) : Pipeline.LevelCut (pcfgs (F := F)) adm () Lx lvx p Dx fun _ => 0 where
  hι := fun c w s => by simp [Lx]
  hιb := fun _ _ _ => le_refl _
  hD := fun c g i h => absurd h (by simp [Dx])

/-- Region 0 of the launch as a segment. -/
def R0x : RegionSeg (pcfgs (F := F)) adm (pdats m) () defs₀ Variants.none Lx lvx 0 :=
  Pipeline.RegionSeg.ofHeldIn (pcfgs (F := F)) adm (pdats m) () defs₀ Variants.none Lx lvx 0 Dx Sx (Gx (F := F)) (Gx (F := F))
    launch0.toP rfl (fun c => (obligation0 (A1 m) c).loose) (fun _ _ => rfl) (fun _ => rfl)
    (fun c w => (dat0 (A1 m) c).share_full (fun _ => rfl) w) (fun c => .rfl) (fun c => .rfl) _ (cut 0) (fun _ => BI.emp) (A1 m)
    (fun c w => A0_eq (A1 m) c w)

/-- Its arrays are among the launch's buffers. -/
theorem sub0 : Pipeline.arrRefs (τ := τ) (pcfgs (F := F) 0).spec ⊆ Sx :=
  Pipeline.arrRefs_sub_ucRefs _ (show ∀ w, (Pipeline.arrRef spec0 w).isScoped = false by decide)

/-- It is entered from the launch's buffers. -/
theorem R0x_pre (c : Dev nD) : Tx (A1 m) c ⊢ (R0x m).pre c := by
  unfold R0x
  refine BI.Entails.trans ?_ (Pipeline.RegionSeg.ofHeldIn_pre (p := 0) sub0 c)
  exact BI.Entails.refl _

/-- It is left with its arrays written. -/
theorem R0x_post (c : Dev nD) : (R0x m).post c ⊢ Tx (A2 m) c :=
  Pipeline.RegionSeg.ofHeldIn_post (p := 0) sub0 c

/-- Region 1 of the launch as a segment. -/
def R1x : RegionSeg (pcfgs (F := F)) adm (pdats m) () defs₀ Variants.none Lx lvx 1 :=
  Pipeline.RegionSeg.ofHeldIn (pcfgs (F := F)) adm (pdats m) () defs₀ Variants.none Lx lvx 1 Dx Sx (Gx (F := F)) (Gx (F := F))
    launch1.toP rfl (fun c => (obligation1 (A2 m) c).loose) (fun _ _ => rfl) (fun _ => rfl)
    (fun c w => (dat1 (A2 m) c).share_full (fun _ => rfl) w) (fun c => hin1 (A2 m) c) (fun c => hout1 (A2 m) c) _ (cut 1) (fun _ => BI.emp) (A2 m)
    (fun c w => A1_eq (A2 m) c w)

/-- Its arrays are among the launch's buffers. -/
theorem sub1 : Pipeline.arrRefs (τ := τ) (pcfgs (F := F) 1).spec ⊆ Sx :=
  Pipeline.arrRefs_sub_ucRefs _ (show ∀ w, (Pipeline.arrRef spec1 w).isScoped = false by decide)

/-- It is entered from the launch's buffers. -/
theorem R1x_pre (c : Dev nD) : Tx (A2 m) c ⊢ (R1x m).pre c := by
  unfold R1x
  refine BI.Entails.trans ?_ (Pipeline.RegionSeg.ofHeldIn_pre (p := 1) sub1 c)
  exact BI.Entails.refl _

/-- It is left with its arrays written. -/
theorem R1x_post (c : Dev nD) : (R1x m).post c ⊢ Tx (A3 m) c :=
  Pipeline.RegionSeg.ofHeldIn_post (p := 1) sub1 c

/-- Region 2 of the launch as a segment. -/
def R2x : RegionSeg (pcfgs (F := F)) adm (pdats m) () defs₀ Variants.none Lx lvx 2 :=
  Pipeline.RegionSeg.ofHeldIn (pcfgs (F := F)) adm (pdats m) () defs₀ Variants.none Lx lvx 2 Dx Sx (Gx (F := F)) (Gx (F := F))
    launch2.toP rfl (fun c => (obligation2 (A4 m) c).loose) (fun _ _ => rfl) (fun _ => rfl)
    (fun c w => (dat2 (A4 m) c).share_full (fun _ => rfl) w) (fun c => .rfl) (fun c => .rfl) _ (cut 2) (fun _ => BI.emp) (A4 m)
    (fun c w => A2_eq (A4 m) c w)

/-- Its arrays are among the launch's buffers. -/
theorem sub2 : Pipeline.arrRefs (τ := τ) (pcfgs (F := F) 2).spec ⊆ Sx :=
  Pipeline.arrRefs_sub_ucRefs _ (show ∀ w, (Pipeline.arrRef spec2 w).isScoped = false by decide)

/-- It is entered from the launch's buffers. -/
theorem R2x_pre (c : Dev nD) : Tx (A4 m) c ⊢ (R2x m).pre c := by
  unfold R2x
  refine BI.Entails.trans ?_ (Pipeline.RegionSeg.ofHeldIn_pre (p := 2) sub2 c)
  exact BI.Entails.refl _

/-- It is left with its arrays written. -/
theorem R2x_post (c : Dev nD) : (R2x m).post c ⊢ Tx (A5 m) c :=
  Pipeline.RegionSeg.ofHeldIn_post (p := 2) sub2 c

/-- Region 3 of the launch as a segment. -/
def R3x : RegionSeg (pcfgs (F := F)) adm (pdats m) () defs₀ Variants.none Lx lvx 3 :=
  Pipeline.RegionSeg.ofHeldIn (pcfgs (F := F)) adm (pdats m) () defs₀ Variants.none Lx lvx 3 Dx Sx (Gx (F := F)) (Gx (F := F))
    launch3.toP rfl (fun c => (obligation3 (A5 m) c).loose) (fun _ _ => rfl) (fun _ => rfl)
    (fun c w => (dat3 (A5 m) c).share_full (fun _ => rfl) w) (fun c => hin3 (A5 m) c) (fun c => hout3 (A5 m) c) _ (cut 3) (fun _ => BI.emp) (A5 m)
    (fun c w => A3_eq (A5 m) c w)

/-- Its arrays are among the launch's buffers. -/
theorem sub3 : Pipeline.arrRefs (τ := τ) (pcfgs (F := F) 3).spec ⊆ Sx :=
  Pipeline.arrRefs_sub_ucRefs _ (show ∀ w, (Pipeline.arrRef spec3 w).isScoped = false by decide)

/-- It is entered from the launch's buffers. -/
theorem R3x_pre (c : Dev nD) : Tx (A5 m) c ⊢ (R3x m).pre c := by
  unfold R3x
  refine BI.Entails.trans ?_ (Pipeline.RegionSeg.ofHeldIn_pre (p := 3) sub3 c)
  exact BI.Entails.refl _

/-- It is left with its arrays written. -/
theorem R3x_post (c : Dev nD) : (R3x m).post c ⊢ Tx (A6 m) c :=
  Pipeline.RegionSeg.ofHeldIn_post (p := 3) sub3 c

/-- Region 0 changes its outputs' buffers only. -/
theorem A2_keep (c : Dev nD) (r : Ref sig .tc) (h : ∀ w, Pipeline.arrRef cfg0.spec w = r → (cfg0.win w).isOut = false) :
    A2 m c (Proc.devRef .tc r) = A1 m c (Proc.devRef .tc r) :=
  Pipeline.afterRegion_keeps (dat0 (A1 m) c) (A1 m c) winFacts0.arr_inj (A0_eq (A1 m) c) r h

/-- Region 0 leaves each of its arrays at what its pipeline writes back. -/
theorem A2_arr (c : Dev nD) (w : Fin cfg0.W) :
    A2 m c (Proc.devRef .tc (Pipeline.arrRef cfg0.spec w)) = (dat0 (A1 m) c).arrAt w cfg0.N :=
  Pipeline.afterRegion_arr (dat0 (A1 m) c) (A1 m c) winFacts0.arr_inj w

/-- Region 1 changes its outputs' buffers only. -/
theorem A3_keep (c : Dev nD) (r : Ref sig .tc) (h : ∀ w, Pipeline.arrRef cfg1.spec w = r → (cfg1.win w).isOut = false) :
    A3 m c (Proc.devRef .tc r) = A2 m c (Proc.devRef .tc r) :=
  Pipeline.afterRegion_keeps (dat1 (A2 m) c) (A2 m c) winFacts1.arr_inj (A1_eq (A2 m) c) r h

/-- Region 1 leaves each of its arrays at what its pipeline writes back. -/
theorem A3_arr (c : Dev nD) (w : Fin cfg1.W) :
    A3 m c (Proc.devRef .tc (Pipeline.arrRef cfg1.spec w)) = (dat1 (A2 m) c).arrAt w cfg1.N :=
  Pipeline.afterRegion_arr (dat1 (A2 m) c) (A2 m c) winFacts1.arr_inj w

/-- Region 2 changes its outputs' buffers only. -/
theorem A5_keep (c : Dev nD) (r : Ref sig .tc) (h : ∀ w, Pipeline.arrRef cfg2.spec w = r → (cfg2.win w).isOut = false) :
    A5 m c (Proc.devRef .tc r) = A4 m c (Proc.devRef .tc r) :=
  Pipeline.afterRegion_keeps (dat2 (A4 m) c) (A4 m c) winFacts2.arr_inj (A2_eq (A4 m) c) r h

/-- Region 2 leaves each of its arrays at what its pipeline writes back. -/
theorem A5_arr (c : Dev nD) (w : Fin cfg2.W) :
    A5 m c (Proc.devRef .tc (Pipeline.arrRef cfg2.spec w)) = (dat2 (A4 m) c).arrAt w cfg2.N :=
  Pipeline.afterRegion_arr (dat2 (A4 m) c) (A4 m c) winFacts2.arr_inj w

/-- Region 3 changes its outputs' buffers only. -/
theorem A6_keep (c : Dev nD) (r : Ref sig .tc) (h : ∀ w, Pipeline.arrRef cfg3.spec w = r → (cfg3.win w).isOut = false) :
    A6 m c (Proc.devRef .tc r) = A5 m c (Proc.devRef .tc r) :=
  Pipeline.afterRegion_keeps (dat3 (A5 m) c) (A5 m c) winFacts3.arr_inj (A3_eq (A5 m) c) r h

/-- Region 3 leaves each of its arrays at what its pipeline writes back. -/
theorem A6_arr (c : Dev nD) (w : Fin cfg3.W) :
    A6 m c (Proc.devRef .tc (Pipeline.arrRef cfg3.spec w)) = (dat3 (A5 m) c).arrAt w cfg3.N :=
  Pipeline.afterRegion_arr (dat3 (A5 m) c) (A5 m c) winFacts3.arr_inj w

/-- A buffer that no item writes ends as launched. -/
theorem A6_launch (c : Dev nD) (r : Ref sig .tc) (h0 : r ∉ hostOps0_W) (h2 : r ∉ hostOps2_W)
    (k0 : ∀ w, Pipeline.arrRef cfg0.spec w = r → (cfg0.win w).isOut = false)
    (k1 : ∀ w, Pipeline.arrRef cfg1.spec w = r → (cfg1.win w).isOut = false)
    (k2 : ∀ w, Pipeline.arrRef cfg2.spec w = r → (cfg2.win w).isOut = false)
    (k3 : ∀ w, Pipeline.arrRef cfg3.spec w = r → (cfg3.win w).isOut = false) :
    A6 m c (Proc.devRef .tc r) = m (c, Proc.devRef .tc r) :=
  (A6_keep m c r k3).trans <| (A5_keep m c r k2).trans <| (StableHlo.after_of_writes_sub hostOps2 _ hostOps2_writes h2).trans <|
    (A3_keep m c r k1).trans <| (A2_keep m c r k0).trans <| StableHlo.after_of_writes_sub hostOps0 _ hostOps0_writes h0

/-- The host operations before the first region, as a segment. -/
def H0x : HostSeg (Ix := Unit) (Name := ℕ) (U := UR sig nD τ) (Lvl := ℕ) (pcfgs (F := F)) defs₀ Variants.none Lx lvx :=
  HostSeg.ofOps _ _ _ _ _ Sx hostOps0
    (fun op h => Pipeline.sub_ucRefs op ((List.forall_iff_forall_mem.mp hostOps0_sub) op h))
    (fun op h => (List.forall_iff_forall_mem.mp hostOps0_fresh) op h) (V0 m) (Ex (F := F))

/-- The host operations before the third region, as a segment. -/
def H2x : HostSeg (Ix := Unit) (Name := ℕ) (U := UR sig nD τ) (Lvl := ℕ) (pcfgs (F := F)) defs₀ Variants.none Lx lvx :=
  HostSeg.ofOps _ _ _ _ _ Sx hostOps2
    (fun op h => Pipeline.sub_ucRefs op ((List.forall_iff_forall_mem.mp hostOps2_sub) op h))
    (fun op h => (List.forall_iff_forall_mem.mp hostOps2_fresh) op h) (A3 m) (Ex (F := F))

/-- @main's items as segments. -/
abbrev segsx (c : Dev nD) : List (Seg (pcfgs (F := F)) adm (pdats m) () defs₀ Variants.none Lx lvx) :=
  [.host (H0x m), .region (R0x m), .region (R1x m), .host (H2x m), .region (R2x m), .region (R3x m)]

set_option backward.isDefEq.respectTransparency.types false in
set_option maxHeartbeats 2000000 in
/-- From any memory, every fair run of the kernel ends with every buffer of the launch at the last valuation and every counter at zero. -/
theorem run_all (ρ : Dev nD → PrngReg) :
    θ_run defs (onTc (τ := τ) (main (F := F))) ⟨m, fun _ => 0, ρ⟩ (fun r => (∀ c : Dev nD, ∀ b ∈ Sx, r.2.mem (c, b) = A6 m c b)
      ∧ r.2.sem = fun _ => 0) := by
  refine Pipeline.θ_run_regions_kit_dev_sems (pcfgs (F := F)) adm (pdats m) () cellOf_inj emb₁ defs₀ Variants.none Lx lvx m ρ main
    (segsx m)
    (fun c Q => by
      rewrite [main_chain c, Seg.run_eq_chain,
        show (segsx m c).map Seg.prog = [
          StableHlo.seq hostOps0,
          Prog.lift (.customCall (Pipeline.entry 0) ()),
          Prog.lift (.customCall (Pipeline.entry 1) ()),
          StableHlo.seq hostOps2,
          Prog.lift (.customCall (Pipeline.entry 2) ()),
          Prog.lift (.customCall (Pipeline.entry 3) ()) ] from rfl]
      dsimp (config := { failIfUnchanged := false }) only
      exact .rfl)
    (fun c => by simp only [segsx, Seg.pipes_host, Seg.pipes_region, Seg.pipes_nil]; decide) Dx
    (fun g hg => if_neg hg) (fun _ => BI.emp)
    (initOf (Pipeline.cells cfgs cellOf_inj) (Pipeline.launchToks cfgs cellOf_inj)) ?_
    (T₀ := Tx (V0 m)) (Tₙ := fun c => StableHlo.held (c : Thread nD τ) Sx (A6 m c))
    (hch := fun c => ⟨.rfl, R0x_pre m c, (R0x_post m c).trans (R1x_pre m c), R1x_post m c, R2x_pre m c,
      (R2x_post m c).trans (R3x_pre m c), (R3x_post m c).trans (sep_mono .rfl (Ex_owes c))⟩)
    (hinit := Pipeline.initEach Lx lvx fun c => ?_)
    (QY := fun c s => ∀ b ∈ Sx, s.mem (c, b) = A6 m c b)
    (hfin := fun c s' => ?_) (hQ := fun _ h hz => ⟨h, funext fun g => hz g (.inr (regions_no_unscoped g.2))⟩)
  · -- the launch's resources: the pipelines' cells, and nothing else
    iintro Hu
    imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · rw [show unscopedBufs c (fun b => m ((c.tc : Thread nD τ).loc b)) = StableHlo.held (c : Thread nD τ) Sx (V0 m c) from
      Pipeline.unscopedBufs_held (Ix := Unit) (Name := ℕ) (U := UR sig nD τ) (Lvl := ℕ) c (V0 m c)]
    iintro ⟨⟨Hh, -, HO, -, Hg, -⟩, -⟩
    imodintro
    isplitl [Hh]; · iexact Hh
    isplitl [HO]; · iexists _; iexact HO
    isplitl [Hg]; · iexists _; iexact Hg
    iempintro
  · -- the end: every buffer read off the last valuation
    unfold StableHlo.held
    iintro ⟨Hh, HSI⟩
    ihave Hr := (pointsTo_read_all Sx (fun b => ((c : Thread nD τ).1, b)) (A6 m c) s') $$ [Hh HSI]
    · isplitl [Hh] <;> iassumption
    icases Hr with ⟨%h, HSI⟩
    imodintro
    isplitr
    · ipureintro
      exact h
    iexact HSI

/-- A buffer of @main is among those the run reads. -/
theorem mem_Sx (r : Ref sig .tc) (h : r.isScoped = false) : (Proc.devRef .tc r : DevRef τ sig) ∈ Sx :=
  Finset.mem_filter.mpr ⟨StableHlo.devRef_mem_tcRefs r, fun h' => Bool.false_ne_true (h.symm.trans h')⟩

end Cert.KernelIdeal.Gat

end
-- ==== Proof.Gat.Ends.lean ====
/- How the kernel ends: its result, its arguments and its counters. -/
module

public import proofs.«01_k».proof.Proof.Gat.Run
public import proofs.«01_k».proof.Proof.Gen.KernelIdeal.Points
public import proofs.«01_k».proof.Proof.Gen.KernelIdeal.Launch
public import Idealize.ShloMosaic.Lib.Pipeline.ReadBack
public import Idealize.ShloMosaic.Lib.Pipeline.ValueKit.Acc
public import Idealize.ShloMosaic.Lib.Ring
public import Idealize.ShloMosaic.Lib.Tactic
public import Idealize.ShloMosaic.Lib.WordCmp

@[expose] public section

set_option maxRecDepth 16384

noncomputable section

namespace Cert.KernelIdeal.Gat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A buffer that outlives the regions and that no item writes. -/
abbrev Untouched (r : Ref sig .tc) : Prop :=
  r.isScoped = false ∧ r ∉ hostOps0_W ∧ r ∉ hostOps2_W
    ∧ (∀ w, Pipeline.arrRef spec0 w = r → (spec0 w).isOut = false) ∧ (∀ w, Pipeline.arrRef spec1 w = r → (spec1 w).isOut = false)
    ∧ (∀ w, Pipeline.arrRef spec2 w = r → (spec2 w).isOut = false) ∧ (∀ w, Pipeline.arrRef spec3 w = r → (spec3 w).isOut = false)

/-- Such a buffer ends as launched. -/
theorem untouched_end (c : Dev nD) (r : Ref sig .tc) (h : Untouched r) {s : MemSt nD τ sig (Elt F)}
    (hs : ∀ b ∈ Sx, s.mem (c, b) = A6 m c b) : s.mem ((c.tc : Thread nD τ).loc r) = m ((c.tc : Thread nD τ).loc r) :=
  (hs _ (mem_Sx r h.1)).trans (A6_launch m c r h.2.1 h.2.2.1 h.2.2.2.1 h.2.2.2.2.1 h.2.2.2.2.2.1 h.2.2.2.2.2.2)

/-- From any memory, every fair run of the kernel ends with its result at the last valuation, its arguments as launched and every counter at zero. -/
theorem run_value (ρ : Dev nD → PrngReg) :
    θ_run defs (onTc (τ := τ) (main (F := F))) ⟨m, fun _ => 0, ρ⟩ (fun r => (∀ c : Dev nD,
      r.2.mem ((c.tc : Thread nD τ).loc main_v56) = A6 m c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun _ h => ⟨fun c => ⟨h.1 c _ (mem_Sx main_v56 (by decide)),
    untouched_end m c main_arg0 (by decide) (h.1 c), untouched_end m c main_arg1 (by decide) (h.1 c), untouched_end m c main_arg2 (by decide) (h.1 c), untouched_end m c main_arg3 (by decide) (h.1 c), untouched_end m c main_arg4 (by decide) (h.1 c), untouched_end m c main_arg5 (by decide) (h.1 c), untouched_end m c main_arg6 (by decide) (h.1 c), untouched_end m c main_arg7 (by decide) (h.1 c), untouched_end m c main_arg8 (by decide) (h.1 c), untouched_end m c main_arg9 (by decide) (h.1 c), untouched_end m c main_arg10 (by decide) (h.1 c), untouched_end m c main_arg11 (by decide) (h.1 c)⟩, h.2⟩) (run_all m ρ)

/-- The same without the result. -/
theorem run_frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun _ h => ⟨fun c => (h.1 c).2, h.2⟩) (run_value m ρ)

end Cert.KernelIdeal.Gat

end
-- ==== Proof.Gat.Bits.lean ====
/- The frame of the kernel at machine floats. -/
module

public import proofs.«01_k».proof.Defs
public import proofs.«01_k».proof.Proof.Gat.Ends
public import proofs.«01_k».proof.Proof.Gen.Kernel

@[expose] public section

set_option maxRecDepth 16384

noncomputable section

namespace Cert.Gat

open Idealize.ShloMosaic Idealize.SL.Sem

set_option maxHeartbeats 4000000

variable {F : FTy → Type} [FloatOps F]

/-- The kernel and its rounding-free copy print the same program. -/
theorem main_eq : @Kernel.main F _ Kernel.Gen.facts = @KernelIdeal.main F _ KernelIdeal.Gen.facts := by exact rfl

/-- They print the same four bodies. -/
theorem bodies_eq : @Kernel.defs₀ F _ Kernel.Gen.facts = @KernelIdeal.defs₀ F _ KernelIdeal.Gen.facts := by
  funext p l a
  match p, l, a with
  | .tc, ⟨0, _⟩, (t, s) => exact rfl
  | .tc, ⟨1, _⟩, (t, s) => exact rfl
  | .tc, ⟨2, _⟩, (t, s) => exact rfl
  | .tc, ⟨3, _⟩, (t, s) => exact rfl
  | .scScalar _, l, a => exact rfl
  | .scVector _ _, l, a => exact rfl

/-- They print the same body table. -/
theorem defs_eq : @Kernel.defs F _ Kernel.Gen.facts = @KernelIdeal.defs F _ KernelIdeal.Gen.facts :=
  congrArg (Pipeline.defs (Kernel.pcfgs (F := F))) bodies_eq

/-- At machine floats the kernel runs, keeps its arguments and ends with every counter at zero. -/
theorem kernel_frame : quiescent_Kernel (hKernel := Kernel.Gen.facts) := by
  intro m g _
  have h := KernelIdeal.Gat.run_frame (F := Bits) m g
  rw [← main_eq, ← defs_eq] at h
  exact h

end Cert.Gat

end
-- ==== Proof.Gat.Real.lean ====
/- The arithmetic of one softmax row over the reals: a row summed block after block with a moving shift ends at the quotient of the two whole sums. -/
module

public import Idealize.ShloMosaic.Lib.Pointwise

@[expose] public section

set_option maxRecDepth 16384

noncomputable section

namespace Cert.Gat

open Idealize.ShloMosaic

/-- A sum of reals read in the extended reals. -/
theorem coe_sum {ι : Type} (s : Finset ι) (f : ι → ℝ) : (∑ k ∈ s, (f k : EReal) : EReal) = ((∑ k ∈ s, f k : ℝ) : EReal) := by
  classical
  induction s using Finset.induction_on with
  | empty => simp
  | insert a s ha ih => rw [Finset.sum_insert ha, Finset.sum_insert ha, ih, EReal.coe_add]

/-- The slope of the leaky relu is a real number. -/
theorem slope_real : ∃ r : ℝ, Ideal.ofBits .f32 0x3E4CCCCD#32 = (r : EReal) := by
  simp only [Ideal.ofBits, Ideal.ieee]
  rw [if_neg (by decide), if_neg (by decide)]
  exact ⟨_, rfl⟩

/-- So is the score of a missing edge. -/
theorem masked_real : ∃ r : ℝ, Ideal.ofBits .f32 0xD9FFCB9E#32 = (r : EReal) := by
  simp only [Ideal.ofBits, Ideal.ieee]
  rw [if_neg (by decide), if_neg (by decide)]
  exact ⟨_, rfl⟩

/-- The slope. -/
def slope : ℝ := slope_real.choose

/-- The score of a missing edge. -/
def masked : ℝ := masked_real.choose

/-- The slope of the leaky unit as the programs print it. -/
theorem slope_eq : Ideal.ofBits .f32 0x3E4CCCCD#32 = (slope : EReal) := slope_real.choose_spec

/-- The score of a pair without an edge as the programs print it. -/
theorem masked_eq : Ideal.ofBits .f32 0xD9FFCB9E#32 = (masked : EReal) := masked_real.choose_spec

/-- The pattern of minus infinity. -/
theorem bot_eq : Ideal.ofBits .f32 0xFF800000#32 = (⊥ : EReal) := by
  simp only [Ideal.ofBits, Ideal.ieee]
  rw [if_pos (by decide), if_pos (by decide), if_pos (by decide)]

/-- The score of an edge of weight `a` whose logit is `u`. -/
def score (a : EReal) (u : ℝ) : ℝ := if 0 < a then (if 0 ≤ u then u else slope * u) else masked

/-- The same as the programs write it. -/
def scoreE (a u : EReal) : EReal := if 0 < a then (if 0 ≤ u then u else (slope : EReal) * u) else (masked : EReal)

/-- The score of a real logit is real. -/
theorem scoreE_coe (a : EReal) (u : ℝ) : scoreE a (u : EReal) = (score a u : EReal) := by
  unfold scoreE score
  split_ifs with h1 h2 h3 h3
  · rfl
  · exact absurd (EReal.coe_nonneg.mp h2) h3
  · exact absurd (EReal.coe_nonneg.mpr h3) h2
  · rw [EReal.coe_mul]
  · rfl

/-- The exponential linear unit. -/
def elu (x : ℝ) : ℝ := if 0 < x then x else Real.exp x - 1

/-- The same as the programs write it. -/
def eluE (x : EReal) : EReal := if 0 < x then x else Ideal.exp x - 1

/-- The exponential linear unit of a real is real. -/
theorem eluE_coe (x : ℝ) : eluE (x : EReal) = (elu x : EReal) := by
  unfold eluE elu
  split_ifs with h1 h2 h2
  · rfl
  · exact absurd (EReal.coe_pos.mp h1) h2
  · exact absurd (EReal.coe_pos.mpr h2) h1
  · show (Real.exp x : EReal) - 1 = _
    rw [EReal.coe_sub, EReal.coe_one]

/-- The largest of finitely many reals, at least one, is a real. -/
theorem fold_max_real {n : ℕ} (f : Fin (n + 1) → ℝ) : ∃ r : ℝ, (Finset.univ.fold max (⊥ : EReal) fun k => (f k : EReal)) = (r : EReal) := by
  obtain ⟨i, -, hi⟩ := Finset.exists_mem_eq_sup (Finset.univ : Finset (Fin (n + 1))) ⟨0, Finset.mem_univ _⟩ (fun k => (f k : EReal))
  exact ⟨f i, hi⟩

/-- Dividing two reals, the lower one not zero. -/
theorem div_coe' (x y : ℝ) (hy : y ≠ 0) : Ideal.div (x : EReal) (y : EReal) = ((x / y : ℝ) : EReal) := by
  unfold Ideal.div
  rw [if_neg (fun h => hy (EReal.coe_eq_zero.mp h)), ← EReal.coe_inv, ← EReal.coe_mul, div_eq_mul_inv]

/-- What a row carries after its first `n` columns, one entry of the weighted sum: nothing yet, or the two sums at some real shift. -/
def Held (e w : ℕ → ℝ) (n : ℕ) (m l a : EReal) : Prop :=
  (n = 0 ∧ m = ⊥ ∧ l = 0 ∧ a = 0) ∨
  (0 < n ∧ ∃ M : ℝ, m = (M : EReal) ∧ l = ((Real.exp (-M) * ∑ j ∈ Finset.range n, Real.exp (e j) : ℝ) : EReal)
    ∧ a = ((Real.exp (-M) * ∑ j ∈ Finset.range n, Real.exp (e j) * w j : ℝ) : EReal))

/-- The exponential of a real is real. -/
theorem exp_coe (r : ℝ) : Ideal.exp (r : EReal) = (Real.exp r : EReal) := rfl

/-- The larger of two reals, read in the extended reals. -/
theorem coe_max' (x y : ℝ) : ((max x y : ℝ) : EReal) = max (x : EReal) (y : EReal) := EReal.coe_strictMono.monotone.map_max

/-- One block of `B` columns more. -/
theorem Held.step {e w : ℕ → ℝ} {n B : ℕ} (hB : 0 < B) {m l a : EReal} (h : Held e w n m l a) (X : ℝ) :
    Held e w (n + B) (max m (X : EReal))
      (l * Ideal.exp (m - max m (X : EReal)) + ∑ k : Fin B, Ideal.exp ((e (n + k) : EReal) - max m (X : EReal)))
      (a * Ideal.exp (m - max m (X : EReal)) + ∑ k : Fin B, Ideal.exp ((e (n + k) : EReal) - max m (X : EReal)) * (w (n + k) : EReal)) := by
  have hp : ∀ (M x : ℝ), Ideal.exp ((x : EReal) - (M : EReal)) = ((Real.exp (-M) * Real.exp x : ℝ) : EReal) := by
    intro M x
    rw [← EReal.coe_sub, exp_coe, ← Real.exp_add]
    congr 2
    ring
  have hS : ∀ (M : ℝ) (g : ℕ → ℝ), (∑ k : Fin B, Ideal.exp ((e (n + k) : EReal) - (M : EReal)) * (g (n + k) : EReal))
      = ((Real.exp (-M) * ∑ k ∈ Finset.range B, Real.exp (e (n + k)) * g (n + k) : ℝ) : EReal) := by
    intro M g
    rw [Finset.mul_sum, ← Fin.sum_univ_eq_sum_range (fun k => Real.exp (-M) * (Real.exp (e (n + k)) * g (n + k))), ← coe_sum]
    refine Finset.sum_congr rfl fun k _ => ?_
    rw [hp, ← EReal.coe_mul]
    congr 1
    ring
  have hS1 : ∀ M : ℝ, (∑ k : Fin B, Ideal.exp ((e (n + k) : EReal) - (M : EReal)))
      = ((Real.exp (-M) * ∑ k ∈ Finset.range B, Real.exp (e (n + k)) : ℝ) : EReal) := by
    intro M
    simpa using hS M (fun _ => 1)
  refine .inr ⟨by omega, ?_⟩
  rcases h with ⟨h0, rfl, rfl, rfl⟩ | ⟨h0, M, rfl, rfl, rfl⟩
  · subst h0
    refine ⟨X, by simp, ?_, ?_⟩
    · rw [max_eq_right bot_le, zero_mul, zero_add, hS1]
      simp
    · rw [max_eq_right bot_le, zero_mul, zero_add, hS]
      simp
  · refine ⟨max M X, (coe_max' M X).symm, ?_, ?_⟩
    · rw [← coe_max', hS1, hp, ← EReal.coe_mul, ← EReal.coe_add, Finset.sum_range_add]
      congr 1
      have : Real.exp (-M) * Real.exp M = 1 := by rw [← Real.exp_add]; simp
      linear_combination (Real.exp (-max M X) * ∑ j ∈ Finset.range n, Real.exp (e j)) * this
    · rw [← coe_max', hS, hp, ← EReal.coe_mul, ← EReal.coe_add, Finset.sum_range_add]
      congr 1
      have : Real.exp (-M) * Real.exp M = 1 := by rw [← Real.exp_add]; simp
      linear_combination (Real.exp (-max M X) * ∑ j ∈ Finset.range n, Real.exp (e j) * w j) * this

/-- The weighted mean of a row: softmax weights of the scores `e` against `w`. -/
def att (n : ℕ) (e w : ℕ → ℝ) : ℝ := (∑ j ∈ Finset.range n, Real.exp (e j) * w j) / ∑ j ∈ Finset.range n, Real.exp (e j)

/-- The sum of exponentials of a row that is not empty is positive. -/
theorem sum_exp_pos (n : ℕ) (hn : 0 < n) (e : ℕ → ℝ) : 0 < ∑ j ∈ Finset.range n, Real.exp (e j) :=
  Finset.sum_pos (fun j _ => Real.exp_pos _) ⟨0, Finset.mem_range.mpr hn⟩

/-- The quotient the streaming row ends at. -/
theorem Held.quot {e w : ℕ → ℝ} {n : ℕ} (hn : 0 < n) {m l a : EReal} (h : Held e w n m l a) : Ideal.div a l = (att n e w : EReal) := by
  rcases h with ⟨h0, -⟩ | ⟨-, M, -, rfl, rfl⟩
  · omega
  · have hs := sum_exp_pos n hn e
    have hM := Real.exp_pos (-M)
    rw [div_coe' _ _ (mul_pos hM hs).ne']
    congr 1
    exact mul_div_mul_left _ _ hM.ne'

/-- The whole-row softmax, shifted by any real, against `w`. -/
theorem softmax_row {n : ℕ} (hn : 0 < n) (e w : ℕ → ℝ) (M : ℝ) :
    (∑ j : Fin n, Ideal.div (Ideal.exp ((e j : EReal) - (M : EReal))) (∑ k : Fin n, Ideal.exp ((e k : EReal) - (M : EReal))) * (w j : EReal) : EReal)
      = (att n e w : EReal) := by
  have hp : ∀ x : ℝ, Ideal.exp ((x : EReal) - (M : EReal)) = ((Real.exp (-M) * Real.exp x : ℝ) : EReal) := by
    intro x
    rw [← EReal.coe_sub, exp_coe, ← Real.exp_add]
    congr 2
    ring
  have hs := sum_exp_pos n hn e
  have hM := Real.exp_pos (-M)
  have hl : (∑ k : Fin n, Ideal.exp ((e k : EReal) - (M : EReal))) = ((Real.exp (-M) * ∑ j ∈ Finset.range n, Real.exp (e j) : ℝ) : EReal) := by
    rw [Finset.mul_sum, ← Fin.sum_univ_eq_sum_range (fun k => Real.exp (-M) * Real.exp (e k)), ← coe_sum]
    exact Finset.sum_congr rfl fun k _ => hp _
  rw [hl]
  unfold att
  rw [Finset.sum_div, ← Fin.sum_univ_eq_sum_range (fun j => Real.exp (e j) * w j / ∑ j ∈ Finset.range n, Real.exp (e j)), ← coe_sum]
  refine Finset.sum_congr rfl fun j _ => ?_
  rw [hp, div_coe' _ _ (mul_pos hM hs).ne', mul_div_mul_left _ _ hM.ne', ← EReal.coe_mul]
  congr 1
  ring

/-- The logarithm of the softmax of a row, at one entry. -/
def lsm {n : ℕ} (z : Fin n → ℝ) (k : Fin n) : ℝ := z k - Real.log (∑ j, Real.exp (z j))

/-- It is what either program computes, whatever real the row is shifted by. -/
theorem lsm_row {n : ℕ} (hn : 0 < n) (z : Fin n → ℝ) (M : ℝ) (k : Fin n) :
    ((z k : EReal) - (M : EReal)) - Ideal.log (∑ j, Ideal.exp ((z j : EReal) - (M : EReal))) = (lsm z k : EReal) := by
  have hs : 0 < ∑ j : Fin n, Real.exp (z j) := Finset.sum_pos (fun j _ => Real.exp_pos _) ⟨⟨0, hn⟩, Finset.mem_univ _⟩
  have hM := Real.exp_pos (-M)
  have hl : (∑ j, Ideal.exp ((z j : EReal) - (M : EReal))) = ((Real.exp (-M) * ∑ j, Real.exp (z j) : ℝ) : EReal) := by
    rw [Finset.mul_sum, ← coe_sum]
    refine Finset.sum_congr rfl fun j _ => ?_
    rw [← EReal.coe_sub, exp_coe, ← Real.exp_add]
    congr 2
    ring
  have hlog : Ideal.log ((Real.exp (-M) * ∑ j, Real.exp (z j) : ℝ) : EReal) = ((-M + Real.log (∑ j, Real.exp (z j)) : ℝ) : EReal) := by
    show (if Real.exp (-M) * ∑ j, Real.exp (z j) ≤ 0 then (⊥ : EReal) else (Real.log (Real.exp (-M) * ∑ j, Real.exp (z j)) : EReal)) = _
    rw [if_neg (not_le.mpr (mul_pos hM hs)), Real.log_mul hM.ne' hs.ne', Real.log_exp]
  rw [hl, hlog, ← EReal.coe_sub, ← EReal.coe_sub]
  congr 1
  unfold lsm
  ring

end Cert.Gat

end
-- ==== Proof.Gat.Spec.lean ====
/- The two attention layers over the reals, and how finite arrays read as reals. -/
module

public import proofs.«01_k».proof.Proof.Gat.Real
public import Idealize.ShloMosaic.Lib.Pointwise

@[expose] public section

set_option maxRecDepth 16384

noncomputable section

namespace Cert.Gat

open Idealize.ShloMosaic

/-- An entry of an array at two natural numbers, zero outside. -/
def natAt {a b : ℕ} (x : FVec Ideal ⟨2, ![a, b]⟩ .f32) (i j : ℕ) : EReal := if h : i < a ∧ j < b then x (ix2 ⟨i, h.1⟩ ⟨j, h.2⟩) else 0

/-- The same as a real number. -/
def realAt {a b : ℕ} (x : FVec Ideal ⟨2, ![a, b]⟩ .f32) (i j : ℕ) : ℝ := (natAt x i j).toReal

/-- Every entry of an array is a real number. -/
def Finite {a b : ℕ} (x : FVec Ideal ⟨2, ![a, b]⟩ .f32) : Prop := ∀ (i : Fin a) (j : Fin b), x (ix2 i j) ≠ ⊥ ∧ x (ix2 i j) ≠ ⊤

/-- An entry at two indices in range is the array's own. -/
theorem natAt_eq {a b : ℕ} (x : FVec Ideal ⟨2, ![a, b]⟩ .f32) (i : Fin a) (j : Fin b) : natAt x i.val j.val = x (ix2 i j) := by
  unfold natAt
  rw [dif_pos ⟨i.isLt, j.isLt⟩]

/-- A finite array is its reading as reals. -/
theorem Finite.eq {a b : ℕ} {x : FVec Ideal ⟨2, ![a, b]⟩ .f32} (h : Finite x) (i : Fin a) (j : Fin b) : x (ix2 i j) = (realAt x i.val j.val : EReal) := by
  unfold realAt
  rw [natAt_eq, EReal.coe_toReal (h i j).2 (h i j).1]

/-- A sum of products of reals, read in the extended reals. -/
theorem dot_coe (n : ℕ) (u v : ℕ → ℝ) : (∑ k : Fin n, (u k : EReal) * (v k : EReal) : EReal) = ((∑ k ∈ Finset.range n, u k * v k : ℝ) : EReal) := by
  rw [← Fin.sum_univ_eq_sum_range (fun k => u k * v k), ← coe_sum]
  exact Finset.sum_congr rfl fun k _ => (EReal.coe_mul _ _).symm

/-- Projected features: column `f` of node `i`, from features of width `d`. -/
def proj (d : ℕ) (x W : ℕ → ℕ → ℝ) (f i : ℕ) : ℝ := ∑ k ∈ Finset.range d, x i k * W k f

/-- One half of the logit of a node: its projected features `G` against 128 entries of the attention vector, from `o` on. -/
def half (G : ℕ → ℕ → ℝ) (A : ℕ → ℕ → ℝ) (o i : ℕ) : ℝ := ∑ f ∈ Finset.range 128, G f i * A (o + f) 0

/-- The score of a pair of nodes. -/
def pairScore (adj : ℕ → ℕ → EReal) (G A : ℕ → ℕ → ℝ) (i j : ℕ) : ℝ := score (adj i j) (half G A 0 i + half G A 128 j)

/-- What an attention head gives node `i` in column `f`. -/
def head (adj : ℕ → ℕ → EReal) (G A : ℕ → ℕ → ℝ) (i f : ℕ) : ℝ := att 4096 (pairScore adj G A i) (G f)

/-- The `h`-th entry of a family of four, at any natural number. -/
def four (W : Fin 4 → ℕ → ℕ → ℝ) (h : ℕ) : ℕ → ℕ → ℝ := if q : h < 4 then W ⟨h, q⟩ else fun _ _ => 0

/-- The hidden features: four heads side by side, each through the exponential linear unit. -/
def hidden (adj : ℕ → ℕ → EReal) (x : ℕ → ℕ → ℝ) (W A : ℕ → ℕ → ℕ → ℝ) (i k : ℕ) : ℝ :=
  elu (head adj (proj 256 x (W (k / 128))) (A (k / 128)) i (k % 128))

/-- The result: the last head over the hidden features, the exponential linear unit, and the logarithm of the softmax along the row. -/
def result (adj : ℕ → ℕ → EReal) (x : ℕ → ℕ → ℝ) (W A : ℕ → ℕ → ℕ → ℝ) (Wo Ao : ℕ → ℕ → ℝ) (i : ℕ) (f : Fin 128) : ℝ :=
  lsm (fun f : Fin 128 => elu (head adj (proj 512 (hidden adj x W A) Wo) Ao i f)) f

end Cert.Gat

end
-- ==== Proof.Gat.Lin.lean ====
/- The product of two matrices over the extended reals, as a sum at each index. -/
module

public import Idealize.ShloMosaic.Lib.Pointwise
public import Idealize.ShloMosaic.Lib.Pipeline.ValueKit

@[expose] public section

set_option maxRecDepth 16384

noncomputable section

namespace Cert.Gat

open Idealize.ShloMosaic

/-- The product of two matrices. -/
def prodAt {a b d : ℕ} (x : FVec Ideal ⟨2, ![a, b]⟩ .f32) (w : FVec Ideal ⟨2, ![b, d]⟩ .f32) : FVec Ideal ⟨2, ![a, d]⟩ .f32 :=
  fun i => (∑ k : Fin b, (x (ix2 (i 0) k) : EReal) * (w (ix2 k (i 1)) : EReal) : EReal)

/-- Two sums of products agree when their factors do. -/
theorem sum_mul_congr {n : ℕ} {f g f' g' : Fin n → EReal} (hf : ∀ k, f k = f' k) (hg : ∀ k, g k = g' k) :
    (∑ k, f k * g k : EReal) = ∑ k, f' k * g' k :=
  Finset.sum_congr rfl fun k _ => by rw [hf k, hg k]

/-- Two products agree at two indices when the row of one and the column of the other do. -/
theorem prodAt_congr {a b d a' d' : ℕ} {x : FVec Ideal ⟨2, ![a, b]⟩ .f32} {w : FVec Ideal ⟨2, ![b, d]⟩ .f32} {x' : FVec Ideal ⟨2, ![a', b]⟩ .f32} {w' : FVec Ideal ⟨2, ![b, d']⟩ .f32}
    {i : (⟨2, ![a, d]⟩ : Shape).Idx} {j : (⟨2, ![a', d']⟩ : Shape).Idx}
    (hx : ∀ k : Fin b, x (ix2 (i 0) k) = x' (ix2 (j 0) k)) (hw : ∀ k : Fin b, w (ix2 k (i 1)) = w' (ix2 k (j 1))) : prodAt x w i = prodAt x' w' j :=
  sum_mul_congr hx hw

end Cert.Gat

end
-- ==== Proof.Gat.Host0.lean ====
/- What the host operations before the first region lay out: the four weight matrices side by side, and the halves of the four attention vectors as the columns of two block matrices. -/
module

public import proofs.«01_k».proof.Proof.Gat.Run
public import Idealize.ShloMosaic.Lib.StableHlo.ReadAt
public import Idealize.ShloMosaic.Lib.Routing.OpsOne
public import Idealize.ShloMosaic.Lib.Pointwise

@[expose] public section

set_option maxRecDepth 16384

noncomputable section

namespace Cert.KernelIdeal.Gat

open Cert.KernelIdeal Cert.KernelIdeal.Gen
open Idealize.ShloMosaic Idealize.ShloMosaic.TcCoe
open Idealize.ShloMosaic.Pipeline (Dat Cfg Window)

variable (V : Valuation τ sig (Elt Ideal))

/-- Two index words as the index vector of a scatter. -/
def pairVec (a b : IVec S1 32) : IVec S2 32 := concatenate S2 0 [⟨S1, a⟩, ⟨S1, b⟩] concatenates_S1_S1_S2_d0

/-- As the program prints it. -/
theorem pairVec_eq (a b : IVec S1 32) : concatenate S2 0 [⟨S1, a⟩, ⟨S1, b⟩] concatenates_S1_S1_S2_d0 = pairVec a b := rfl

/-- A word as an index vector of one. -/
def word1 (r : BitVec 32) : IVec S1 32 := broadcastInDim S1 ![] bcast_S_S1 (constantI S_ 32 r)

/-- A column of 128 entries written into a 512 by 4 matrix, from row `r` of column `c`. -/
def put (x : FVec Ideal S512x4 .f32) (r c : BitVec 32) (u : FVec Ideal S128 .f32) : FVec Ideal S512x4 .f32 :=
  Host.scatter scatter_S512x4_S2_S128_0_1_01_0 (fun _ b => b) x (pairVec (word1 r) (word1 c)) u

/-- The first half of an attention vector. -/
def lo (a : FVec Ideal S256x1 .f32) : FVec Ideal S128 .f32 := shapeCast S128 (extractStridedSlice S128x1 ![0, 0] a slices_S256x1_S128x1_0_0) shapeCasts_S128x1_S128

/-- The second half. -/
def hi (a : FVec Ideal S256x1 .f32) : FVec Ideal S128 .f32 := shapeCast S128 (extractStridedSlice S128x1 ![128, 0] a slices_S256x1_S128x1_128_0) shapeCasts_S128x1_S128

/-- The matrix of zeros. -/
def zero4 : FVec Ideal S512x4 .f32 := broadcastInDim S512x4 ![] bcast_S_S512x4 (constant S_ .f32 0x00000000#32)

/-- Four columns written one after another. -/
def put4 (u v w z : FVec Ideal S128 .f32) : FVec Ideal S512x4 .f32 := put (put (put (put zero4 0#32 0#32 u) 128#32 1#32 v) 256#32 2#32 w) 384#32 3#32 z

set_option maxHeartbeats 4000000 in
/-- The matrix of the first halves. -/
theorem host_src : StableHlo.after (hostOps0 (F := Ideal)) V (Proc.devRef .tc main_v44)
    = put4 (lo (V (Proc.devRef .tc main_arg3))) (lo (V (Proc.devRef .tc main_arg5))) (lo (V (Proc.devRef .tc main_arg7))) (lo (V (Proc.devRef .tc main_arg9))) := by
  unfold hostOps0
  after_reads_simp [pairVec_eq]
  rfl

set_option maxHeartbeats 4000000 in
/-- The matrix of the second halves. -/
theorem host_dst : StableHlo.after (hostOps0 (F := Ideal)) V (Proc.devRef .tc main_v50)
    = put4 (hi (V (Proc.devRef .tc main_arg3))) (hi (V (Proc.devRef .tc main_arg5))) (hi (V (Proc.devRef .tc main_arg7))) (hi (V (Proc.devRef .tc main_arg9))) := by
  unfold hostOps0
  after_reads_simp [pairVec_eq]
  rfl

/-- Four matrices side by side. -/
def cat4 (a b c d : FVec Ideal S256x128 .f32) : FVec Ideal S256x512 .f32 :=
  concatenate S256x512 1 [⟨S256x128, a⟩, ⟨S256x128, b⟩, ⟨S256x128, c⟩, ⟨S256x128, d⟩] concatenates_S256x128_S256x128_S256x128_S256x128_S256x512_d1

set_option maxHeartbeats 4000000 in
/-- The weights side by side. -/
theorem host_cat : StableHlo.after (hostOps0 (F := Ideal)) V (Proc.devRef .tc main_v0)
    = cat4 (V (Proc.devRef .tc main_arg2)) (V (Proc.devRef .tc main_arg4)) (V (Proc.devRef .tc main_arg6)) (V (Proc.devRef .tc main_arg8)) := by
  unfold hostOps0
  after_reads_simp
  rfl

/-- One scatter, read at an entry. -/
theorem put_at (x : FVec Ideal S512x4 .f32) (r c : ℕ) (hr : r < 2 ^ 31) (hc : c < 2 ^ 31) (u : FVec Ideal S128 .f32) (k : Fin 512) (h : Fin 4) :
    put x (BitVec.ofNat 32 r) (BitVec.ofNat 32 c) u (ix2 k h) = if h.val = c ∧ r ≤ k.val ∧ k.val < r + 128 then u (ix1 (⟨(k.val - r) % 128, Nat.mod_lt _ (by decide)⟩ : Fin 128)) else x (ix2 k h) := by
  have e0 : (pairVec (word1 (BitVec.ofNat 32 r)) (word1 (BitVec.ofNat 32 c)) (ix1 (0 : Fin 2))).toInt = (r : ℤ) := by
    rw [← StableHlo.Predicate.toInt_ofNat_small r hr]
    pointwise [pairVec, word1]
  have e1 : (pairVec (word1 (BitVec.ofNat 32 r)) (word1 (BitVec.ofNat 32 c)) (ix1 (1 : Fin 2))).toInt = (c : ℤ) := by
    rw [← StableHlo.Predicate.toInt_ofNat_small c hc]
    pointwise [pairVec, word1]
  refine (Routing.scatter_column_signed scatter_S512x4_S2_S128_0_1_01_0 (by decide : 0 < 128) rfl rfl rfl x _ u (ix2 k h)).trans ?_
  erw [e0, e1]
  show (if (c : ℤ) = (h.val : ℤ) ∧ (r : ℤ) ≤ (k.val : ℤ) ∧ (k.val : ℤ) < (r : ℤ) + ((128 : ℕ) : ℤ)
      then u (ix1 (⟨((k.val : ℤ) - (r : ℤ)).toNat % 128, Nat.mod_lt _ (by decide)⟩ : Fin 128)) else x (ix2 k h)) = _
  by_cases hh : h.val = c ∧ r ≤ k.val ∧ k.val < r + 128
  · rw [if_pos hh, if_pos ⟨by omega, by omega, by omega⟩]
    exact congrArg (fun q : Fin 128 => u (ix1 q)) (Fin.ext (by show ((k.val : ℤ) - (r : ℤ)).toNat % 128 = (k.val - r) % 128; omega))
  · rw [if_neg hh, if_neg (by omega)]

/-- The four columns, read at an entry: column `h` holds its vector in the rows of its own block, zero elsewhere. -/
theorem put4_at (g : Fin 4 → FVec Ideal S128 .f32) (k : Fin 512) (h : Fin 4) :
    put4 (g 0) (g 1) (g 2) (g 3) (ix2 k h) = if k.val / 128 = h.val then g h (ix1 (⟨k.val % 128, Nat.mod_lt _ (by decide)⟩ : Fin 128)) else 0 := by
  have hz : zero4 (ix2 k h) = 0 := by pointwise [zero4]
  have hp := fun (x : FVec Ideal S512x4 .f32) (q : Fin 4) => put_at x (128 * q.val) q.val (by omega) (by omega) (g q) k h
  have hk := k.isLt
  unfold put4
  refine (hp _ 3).trans ?_
  have h2 := hp (put (put zero4 0#32 0#32 (g 0)) 128#32 1#32 (g 1)) 2
  have h1 := hp (put zero4 0#32 0#32 (g 0)) 1
  have h0 := hp zero4 0
  rw [hz] at h0
  have key : ∀ q : Fin 4, (h.val = q.val ∧ 128 * q.val ≤ k.val ∧ k.val < 128 * q.val + 128) ↔ (h = q ∧ k.val / 128 = h.val) := by
    intro q
    rw [Fin.ext_iff]
    omega
  simp only [key] at h0 h1 h2 ⊢
  have ent : ∀ q : Fin 4, h = q ∧ k.val / 128 = h.val → g q (ix1 (⟨(k.val - 128 * q.val) % 128, Nat.mod_lt _ (by decide)⟩ : Fin 128)) = g h (ix1 (⟨k.val % 128, Nat.mod_lt _ (by decide)⟩ : Fin 128)) := by
    rintro q ⟨rfl, hq⟩
    exact congrArg (fun r : Fin 128 => g h (ix1 r)) (Fin.ext (by show (k.val - 128 * h.val) % 128 = k.val % 128; omega))
  by_cases hb : k.val / 128 = h.val
  · rw [if_pos hb]
    rcases (show h = 3 ∨ h = 2 ∨ h = 1 ∨ h = 0 by omega) with e | e | e | e
    · rw [if_pos ⟨e, hb⟩]; exact ent 3 ⟨e, hb⟩
    · rw [if_neg (fun q => absurd (e.symm.trans q.1) (by decide))]; exact h2.trans ((if_pos ⟨e, hb⟩).trans (ent 2 ⟨e, hb⟩))
    · rw [if_neg (fun q => absurd (e.symm.trans q.1) (by decide))]
      refine h2.trans ?_
      rw [if_neg (fun q => absurd (e.symm.trans q.1) (by decide))]
      exact h1.trans ((if_pos ⟨e, hb⟩).trans (ent 1 ⟨e, hb⟩))
    · rw [if_neg (fun q => absurd (e.symm.trans q.1) (by decide))]
      refine h2.trans ?_
      rw [if_neg (fun q => absurd (e.symm.trans q.1) (by decide))]
      refine h1.trans ?_
      rw [if_neg (fun q => absurd (e.symm.trans q.1) (by decide))]
      exact h0.trans ((if_pos ⟨e, hb⟩).trans (ent 0 ⟨e, hb⟩))
  · rw [if_neg hb, if_neg (fun q => hb q.2)]
    refine h2.trans ?_
    rw [if_neg (fun q => hb q.2)]
    refine h1.trans ?_
    rw [if_neg (fun q => hb q.2)]
    exact h0.trans (if_neg (fun q => hb q.2))

/-- The first half of a vector, read at an entry. -/
theorem lo_at (a : FVec Ideal S256x1 .f32) (f : Fin 128) : lo a (ix1 f) = a (ix2 (⟨f.val, by omega⟩ : Fin 256) (0 : Fin 1)) := by
  pointwise [lo]

/-- The second half, read at an entry. -/
theorem hi_at (a : FVec Ideal S256x1 .f32) (f : Fin 128) : hi a (ix1 f) = a (ix2 (⟨128 + f.val, by omega⟩ : Fin 256) (0 : Fin 1)) := by
  pointwise [hi]

/-- Four matrices side by side, read at an entry. -/
theorem cat4_at (g : Fin 4 → FVec Ideal S256x128 .f32) (k : Fin 256) (j : Fin 512) :
    cat4 (g 0) (g 1) (g 2) (g 3) (ix2 k j) = g ⟨j.val / 128, by omega⟩ (ix2 k (⟨j.val % 128, Nat.mod_lt _ (by decide)⟩ : Fin 128)) := by
  have key : ∀ (q : Fin 4) (r : Fin 128), 128 * q.val + r.val = j.val →
      g q (ix2 k r) = g ⟨j.val / 128, by omega⟩ (ix2 k (⟨j.val % 128, Nat.mod_lt _ (by decide)⟩ : Fin 128)) := by
    intro q r hqr
    have hq : (⟨j.val / 128, by omega⟩ : Fin 4) = q := Fin.ext (by show j.val / 128 = q.val; omega)
    rw [hq]
    exact congrArg (fun r : Fin 128 => g q (ix2 k r)) (Fin.ext (by show r.val = j.val % 128; omega))
  have hj := j.isLt
  pointwise [cat4]
  by_cases h0 : j.val < 128
  · rw [dif_pos h0]
    exact key 0 _ (by show 128 * 0 + j.val = j.val; omega)
  · rw [dif_neg h0]
    by_cases h1 : j.val - 128 < 128
    · rw [dif_pos h1]
      exact key 1 ⟨j.val - 128, h1⟩ (by show 128 * 1 + (j.val - 128) = j.val; omega)
    · rw [dif_neg h1]
      by_cases h2 : j.val - 128 - 128 < 128
      · rw [dif_pos h2]
        exact key 2 ⟨j.val - 128 - 128, h2⟩ (by show 128 * 2 + (j.val - 128 - 128) = j.val; omega)
      · rw [dif_neg h2]
        exact key 3 ⟨j.val - 128 - 128 - 128, by omega⟩ (by show 128 * 3 + (j.val - 128 - 128 - 128) = j.val; omega)

set_option maxHeartbeats 4000000 in
/-- The first half of the last attention vector, as a column. -/
theorem host_src2 : StableHlo.after (hostOps2 (F := Ideal)) V (Proc.devRef .tc main_v53) = extractStridedSlice S128x1 ![0, 0] (V (Proc.devRef .tc main_arg11)) slices_S256x1_S128x1_0_0 := by
  unfold hostOps2
  after_reads_simp

set_option maxHeartbeats 4000000 in
/-- The second half. -/
theorem host_dst2 : StableHlo.after (hostOps2 (F := Ideal)) V (Proc.devRef .tc main_v54) = extractStridedSlice S128x1 ![128, 0] (V (Proc.devRef .tc main_arg11)) slices_S256x1_S128x1_128_0 := by
  unfold hostOps2
  after_reads_simp

end Cert.KernelIdeal.Gat

end
-- ==== Proof.Gat.KernelLin.lean ====
/- The projections and logit halves of the kernel, read as reals. -/
module

public import proofs.«01_k».proof.Proof.Gat.Spec
public import proofs.«01_k».proof.Proof.Gat.Lin
public import proofs.«01_k».proof.Proof.Gat.Host0
public import Idealize.ShloMosaic.Lib.Pointwise
public import Idealize.ShloMosaic.Lib.Pipeline.ValueKit

@[expose] public section

set_option maxRecDepth 16384

noncomputable section

namespace Cert.KernelIdeal.Gat

open Cert.KernelIdeal Cert.KernelIdeal.Gen
open Idealize.ShloMosaic Idealize.ShloMosaic.TcCoe
open Idealize.ShloMosaic.Pipeline (Dat Cfg Window)

open Cert.Gat

/-- The four projections side by side: column `k` is column `k % 128` of head `k / 128`. -/
def projs (x : ℕ → ℕ → ℝ) (W : ℕ → ℕ → ℕ → ℝ) (k i : ℕ) : ℝ := proj 256 x (W (k / 128)) (k % 128) i

/-- A sum over 512 columns that meets the columns of head `h` only. -/
theorem sum_block (g B : ℕ → ℝ) (h : ℕ) (hh : h < 4) :
    ∑ k ∈ Finset.range 512, g k * (if k / 128 = h then B (k % 128) else 0) = ∑ f ∈ Finset.range 128, g (128 * h + f) * B f := by
  simp only [mul_ite, mul_zero]
  rw [← Finset.sum_filter]
  symm
  refine Finset.sum_nbij (fun f => 128 * h + f) ?_ ?_ ?_ ?_
  · intro f hf
    have := Finset.mem_range.mp hf
    exact Finset.mem_filter.mpr ⟨Finset.mem_range.mpr (by omega), by omega⟩
  · intro f _ f' _ e
    have e' : 128 * h + f = 128 * h + f' := e
    omega
  · intro k hk
    have hk' := Finset.mem_filter.mp (Finset.mem_coe.mp hk)
    exact ⟨k % 128, Finset.mem_coe.mpr (Finset.mem_range.mpr (Nat.mod_lt _ (by decide))), by show 128 * h + k % 128 = k; omega⟩
  · intro f hf
    have := Finset.mem_range.mp hf
    have e : (128 * h + f) % 128 = f := by omega
    show _ = g (128 * h + f) * B ((128 * h + f) % 128)
    rw [e]

/-- The first projection of the kernel. -/
theorem wh1_real (x : FVec Ideal S4096x256 .f32) (W : Fin 4 → FVec Ideal S256x128 .f32) (hx : Finite (a := 4096) (b := 256) x) (hW : ∀ h, Finite (a := 256) (b := 128) (W h)) (i : Fin 4096) (k : Fin 512) :
    prodAt x (cat4 (W 0) (W 1) (W 2) (W 3)) (ix2 i k) = (projs (realAt (a := 4096) (b := 256) x) (four fun h => realAt (a := 256) (b := 128) (W h)) k.val i.val : EReal) := by
  have hk : k.val / 128 < 4 := by omega
  unfold projs proj four
  rw [dif_pos hk, ← dot_coe 256 (fun q => realAt (a := 4096) (b := 256) x i.val q) (fun q => realAt (a := 256) (b := 128) (W ⟨k.val / 128, hk⟩) q (k.val % 128))]
  refine Finset.sum_congr rfl fun q _ => ?_
  show x (ix2 i q) * cat4 (W 0) (W 1) (W 2) (W 3) (ix2 q k) = _
  rw [cat4_at W, hx.eq, (hW _).eq]

/-- A logit half of the first layer: the projected features against the columns of a head's own block. -/
theorem half1_real (o : ℕ) (wh : FVec Ideal S4096x512 .f32) (g : Fin 4 → FVec Ideal S128 .f32) (x : ℕ → ℕ → ℝ) (W A : ℕ → ℕ → ℕ → ℝ)
    (hw : ∀ (i : Fin 4096) (k : Fin 512), wh (ix2 i k) = (projs x W k.val i.val : EReal)) (hg : ∀ (h : Fin 4) (f : Fin 128), g h (ix1 f) = (A h.val (o + f.val) 0 : EReal)) (i : Fin 4096) (h : Fin 4) :
    prodAt wh (put4 (g 0) (g 1) (g 2) (g 3)) (ix2 i h) = (half (proj 256 x (W h.val)) (A h.val) o i.val : EReal) := by
  have e : half (proj 256 x (W h.val)) (A h.val) o i.val = ∑ k ∈ Finset.range 512, projs x W k i.val * (if k / 128 = h.val then A h.val (o + k % 128) 0 else 0) := by
    rw [sum_block (fun k => projs x W k i.val) (fun f => A h.val (o + f) 0) h.val h.isLt]
    refine Finset.sum_congr rfl fun f hf => ?_
    have := Finset.mem_range.mp hf
    have e1 : (128 * h.val + f) / 128 = h.val := by omega
    have e2 : (128 * h.val + f) % 128 = f := by omega
    unfold projs
    rw [e1, e2]
  rw [e, ← dot_coe 512 (fun k => projs x W k i.val) (fun k => if k / 128 = h.val then A h.val (o + k % 128) 0 else 0)]
  refine Finset.sum_congr rfl fun k _ => ?_
  show wh (ix2 i k) * put4 (g 0) (g 1) (g 2) (g 3) (ix2 k h) = _
  rw [put4_at g, hw]
  by_cases q : k.val / 128 = h.val
  · rw [if_pos q, if_pos q, hg]
  · rw [if_neg q, if_neg q, EReal.coe_zero]

/-- The second projection of the kernel. -/
theorem wh2_real (x : FVec Ideal S4096x512 .f32) (w : FVec Ideal S512x128 .f32) (X : ℕ → ℕ → ℝ) (hx : ∀ (i : Fin 4096) (k : Fin 512), x (ix2 i k) = (X i.val k.val : EReal)) (hw : Finite (a := 512) (b := 128) w) (i : Fin 4096) (f : Fin 128) :
    prodAt x w (ix2 i f) = (proj 512 X (realAt (a := 512) (b := 128) w) f.val i.val : EReal) := by
  unfold proj
  rw [← dot_coe 512 (fun k => X i.val k) (fun k => realAt (a := 512) (b := 128) w k f.val)]
  refine Finset.sum_congr rfl fun k _ => ?_
  show x (ix2 i k) * w (ix2 k f) = _
  rw [hx, hw.eq]

/-- A logit half of the second layer. -/
theorem half2_real (o : ℕ) (wh : FVec Ideal S4096x128 .f32) (v : FVec Ideal S128x1 .f32) (G A : ℕ → ℕ → ℝ)
    (hw : ∀ (i : Fin 4096) (f : Fin 128), wh (ix2 i f) = (G f.val i.val : EReal)) (hv : ∀ f : Fin 128, v (ix2 f (0 : Fin 1)) = (A (o + f.val) 0 : EReal)) (i : Fin 4096) :
    prodAt wh v (ix2 i (0 : Fin 1)) = (half G A o i.val : EReal) := by
  unfold half
  rw [← dot_coe 128 (fun f => G f i.val) (fun f => A (o + f) 0)]
  refine Finset.sum_congr rfl fun f _ => ?_
  show wh (ix2 i f) * v (ix2 f (0 : Fin 1)) = _
  rw [hw, hv]

/-- The first half of a finite attention vector. -/
theorem lo_real (a : FVec Ideal S256x1 .f32) (ha : Finite (a := 256) (b := 1) a) (f : Fin 128) : lo a (ix1 f) = (realAt (a := 256) (b := 1) a (0 + f.val) 0 : EReal) := by
  rw [lo_at, ha.eq]
  simp

/-- The second half. -/
theorem hi_real (a : FVec Ideal S256x1 .f32) (ha : Finite (a := 256) (b := 1) a) (f : Fin 128) : hi a (ix1 f) = (realAt (a := 256) (b := 1) a (128 + f.val) 0 : EReal) := by
  rw [hi_at, ha.eq]
  simp

/-- The first half, as the second layer cuts it. -/
theorem slice_lo (a : FVec Ideal S256x1 .f32) (ha : Finite (a := 256) (b := 1) a) (f : Fin 128) : extractStridedSlice S128x1 ![0, 0] a slices_S256x1_S128x1_0_0 (ix2 f (0 : Fin 1)) = (realAt (a := 256) (b := 1) a (0 + f.val) 0 : EReal) :=
  Eq.trans (by pointwise) ((ha.eq (⟨f.val, by omega⟩ : Fin 256) (0 : Fin 1)).trans (by simp))

/-- The second half. -/
theorem slice_hi (a : FVec Ideal S256x1 .f32) (ha : Finite (a := 256) (b := 1) a) (f : Fin 128) : extractStridedSlice S128x1 ![128, 0] a slices_S256x1_S128x1_128_0 (ix2 f (0 : Fin 1)) = (realAt (a := 256) (b := 1) a (128 + f.val) 0 : EReal) :=
  Eq.trans (by pointwise) ((ha.eq (⟨128 + f.val, by omega⟩ : Fin 256) (0 : Fin 1)).trans (by simp))

end Cert.KernelIdeal.Gat

end
-- ==== Proof.Gat.Val0.lean ====
/- What the arrays of region 0 hold after it, as sums. -/
module

public import proofs.«01_k».proof.Proof.Gat.Reg0
public import proofs.«01_k».proof.Proof.Gat.Lin
public import Idealize.ShloMosaic.Lib.Pointwise
public import Idealize.ShloMosaic.Lib.Pipeline.ValueKit

@[expose] public section

set_option maxRecDepth 16384

noncomputable section

namespace Cert.KernelIdeal.Gat

open Cert.KernelIdeal Cert.KernelIdeal.Gen
open Idealize.ShloMosaic Idealize.ShloMosaic.TcCoe
open Idealize.ShloMosaic.Pipeline (Dat Cfg Window)

open Cert.Gat

variable (V : Dev nD → Valuation τ sig (Elt Ideal))

/-- The first payload is a product. -/
theorem pay0_1 (x : FVec Ideal S512x256 .f32) (w : FVec Ideal S256x512 .f32) : k0_pay1 (F := Ideal) x w = prodAt x w := by
  funext j
  pointwise [k0_pay1, prodAt]

/-- So is the second, of the first. -/
theorem pay0_2 (x : FVec Ideal S512x256 .f32) (w : FVec Ideal S256x512 .f32) (a : FVec Ideal S512x4 .f32) : k0_pay2 (F := Ideal) x w a = prodAt (prodAt x w) a := by
  rw [← pay0_1]
  funext j
  pointwise [k0_pay2, prodAt]

/-- And the third. -/
theorem pay0_3 (x : FVec Ideal S512x256 .f32) (w : FVec Ideal S256x512 .f32) (a : FVec Ideal S512x4 .f32) : k0_pay3 (F := Ideal) x w a = prodAt (prodAt x w) a := by
  rw [← pay0_1]
  funext j
  pointwise [k0_pay3, prodAt]

/-- Where the blocks of region 0 lie: the rows move with the point, the weights stay. -/
theorem at0 : ∀ t : Fin cfg0.N, ((cfg0.win 0).index t 0 = t.val ∧ (cfg0.win 0).index t 1 = 0) ∧ ((cfg0.win 1).index t 0 = 0 ∧ (cfg0.win 1).index t 1 = 0)
    ∧ ((cfg0.win 2).index t 0 = 0 ∧ (cfg0.win 2).index t 1 = 0) ∧ ((cfg0.win 3).index t 0 = 0 ∧ (cfg0.win 3).index t 1 = 0)
    ∧ ((cfg0.win 4).index t 0 = t.val ∧ (cfg0.win 4).index t 1 = 0) ∧ ((cfg0.win 5).index t 0 = t.val ∧ (cfg0.win 5).index t 1 = 0)
    ∧ ((cfg0.win 6).index t 0 = t.val ∧ (cfg0.win 6).index t 1 = 0) := by decide +kernel

/-- A row block of the input lies at its 512 rows. -/
theorem blk0_0 (c : Dev nD) (t : Fin cfg0.N) (p : Fin 512) (k : Fin 256) (h : 512 * t.val + p.val < 4096) :
    iblk0 V c 0 t (ix2 p k) = V c (Proc.devRef .tc main_arg0) (ix2 (⟨512 * t.val + p.val, h⟩ : Fin 4096) k) := by
  obtain ⟨⟨h00, h01⟩, -⟩ := at0 t
  blk_ext [iblk0, h00, h01]

/-- Window 1 is its whole array at every point. -/
theorem blk0_1 (c : Dev nD) (t : Fin cfg0.N) : iblk0 V c 1 t = V c (Proc.devRef .tc main_v0) := by
  obtain ⟨-, ⟨h10, h11⟩, ⟨h20, h21⟩, ⟨h30, h31⟩, -⟩ := at0 t
  funext y
  blk_ext [iblk0, h10, h11]

/-- Window 2 is its whole array at every point. -/
theorem blk0_2 (c : Dev nD) (t : Fin cfg0.N) : iblk0 V c 2 t = V c (Proc.devRef .tc main_v44) := by
  obtain ⟨-, ⟨h10, h11⟩, ⟨h20, h21⟩, ⟨h30, h31⟩, -⟩ := at0 t
  funext y
  blk_ext [iblk0, h20, h21]

/-- Window 3 is its whole array at every point. -/
theorem blk0_3 (c : Dev nD) (t : Fin cfg0.N) : iblk0 V c 3 t = V c (Proc.devRef .tc main_v50) := by
  obtain ⟨-, ⟨h10, h11⟩, ⟨h20, h21⟩, ⟨h30, h31⟩, -⟩ := at0 t
  funext y
  blk_ext [iblk0, h30, h31]

/-- Where window 4 places a block's entry. -/
theorem emb0_4 (t : Fin cfg0.N) (y : S512x512.Idx) (h : 512 * t.val + (y 0).val < 4096) :
    ((cfg0.win 4).blk t).view.emb y = ix2 (⟨512 * t.val + (y 0).val, h⟩ : Fin 4096) (y 1) := by
  obtain ⟨-, -, -, -, ⟨h40, h41⟩, ⟨h50, h51⟩, ⟨h60, h61⟩⟩ := at0 t
  blk_ext [h40, h41]

/-- Where window 5 places a block's entry. -/
theorem emb0_5 (t : Fin cfg0.N) (y : S512x4.Idx) (h : 512 * t.val + (y 0).val < 4096) :
    ((cfg0.win 5).blk t).view.emb y = ix2 (⟨512 * t.val + (y 0).val, h⟩ : Fin 4096) (y 1) := by
  obtain ⟨-, -, -, -, ⟨h40, h41⟩, ⟨h50, h51⟩, ⟨h60, h61⟩⟩ := at0 t
  blk_ext [h50, h51]

/-- Where window 6 places a block's entry. -/
theorem emb0_6 (t : Fin cfg0.N) (y : S512x4.Idx) (h : 512 * t.val + (y 0).val < 4096) :
    ((cfg0.win 6).blk t).view.emb y = ix2 (⟨512 * t.val + (y 0).val, h⟩ : Fin 4096) (y 1) := by
  obtain ⟨-, -, -, -, ⟨h40, h41⟩, ⟨h50, h51⟩, ⟨h60, h61⟩⟩ := at0 t
  blk_ext [h60, h61]

/-- A point's rows are rows of the array. -/
theorem row0_lt (t : Fin cfg0.N) (p : ℕ) (hp : p < 512) : 512 * t.val + p < 4096 := by
  have : t.val < 8 := t.isLt
  omega

/-- The projected features after region 0. -/
theorem arr0_4 (c : Dev nD) : (dat0 V c).arrAt 4 cfg0.N = prodAt (V c (Proc.devRef .tc main_arg0)) (V c (Proc.devRef .tc main_v0)) := by
  refine (dat0 V c).arrAt_eq_of_covers 4 _ (by decide +kernel) fun t hf y => ?_
  rw [emb0_4 t y (row0_lt t _ (y 0).isLt), after0_4, pay0_1]
  exact prodAt_congr (fun k => blk0_0 V c t (y 0) k _) (fun k => congrFun (blk0_1 V c t) _)

/-- A logit half after region 0: the projected features against window 2. -/
theorem arr0_5 (c : Dev nD) : (dat0 V c).arrAt 5 cfg0.N = prodAt (prodAt (V c (Proc.devRef .tc main_arg0)) (V c (Proc.devRef .tc main_v0))) (V c (Proc.devRef .tc main_v44)) := by
  refine (dat0 V c).arrAt_eq_of_covers 5 _ (by decide +kernel) fun t hf y => ?_
  rw [emb0_5 t y (row0_lt t _ (y 0).isLt), after0_5, pay0_2]
  exact prodAt_congr (fun q => prodAt_congr (fun k => blk0_0 V c t (y 0) k _) (fun k => congrFun (blk0_1 V c t) _)) (fun q => congrFun (blk0_2 V c t) _)

/-- A logit half after region 0: the projected features against window 3. -/
theorem arr0_6 (c : Dev nD) : (dat0 V c).arrAt 6 cfg0.N = prodAt (prodAt (V c (Proc.devRef .tc main_arg0)) (V c (Proc.devRef .tc main_v0))) (V c (Proc.devRef .tc main_v50)) := by
  refine (dat0 V c).arrAt_eq_of_covers 6 _ (by decide +kernel) fun t hf y => ?_
  rw [emb0_6 t y (row0_lt t _ (y 0).isLt), after0_6, pay0_3]
  exact prodAt_congr (fun q => prodAt_congr (fun k => blk0_0 V c t (y 0) k _) (fun k => congrFun (blk0_1 V c t) _)) (fun q => congrFun (blk0_3 V c t) _)

end Cert.KernelIdeal.Gat

end
-- ==== Proof.Gat.Step.lean ====
/- What one block of the streaming softmax computes, read at an index. -/
module

public import proofs.«01_k».proof.Proof.Gat.Head
public import proofs.«01_k».proof.Proof.Gat.Real
public import Idealize.ShloMosaic.Lib.Pointwise
public import Idealize.ShloMosaic.Lib.Pipeline.ValueKit

@[expose] public section

set_option maxRecDepth 16384

noncomputable section

namespace Cert.KernelIdeal.Gat

open Cert.KernelIdeal Cert.KernelIdeal.Gen
open Idealize.ShloMosaic Idealize.ShloMosaic.TcCoe
open Idealize.ShloMosaic.Pipeline (Dat Cfg Window)

open Cert.Gat

/-- The masked score of a pair of a block. -/
theorem pay7_at (a : FVec Ideal S512x512 .f32) (s d : FVec Ideal S512x1 .f32) (p q : Fin 512) :
    k3_pay7 (F := Ideal) a s d (ix2 p q) = scoreE (a (ix2 p q)) (s (ix2 p (0 : Fin 1)) + d (ix2 q (0 : Fin 1))) := by
  pointwise [k3_pay7]
  rw [slope_eq, masked_eq]
  rfl

/-- The running maximum after a block. -/
theorem mNew_at (a : FVec Ideal S512x512 .f32) (s d mo : FVec Ideal S512x1 .f32) (p : Fin 512) :
    mNew (F := Ideal) a s d mo (ix2 p (0 : Fin 1)) = max (mo (ix2 p (0 : Fin 1))) (Finset.univ.fold max (⊥ : EReal) fun k => k3_pay7 (F := Ideal) a s d (ix2 p k)) := by
  rw [← bot_eq]
  pointwise [mNew, k3_pay11, k3_pay8]

/-- The weight of a pair after a block, at the new maximum. -/
theorem pay9_at (a : FVec Ideal S512x512 .f32) (s d mo : FVec Ideal S512x1 .f32) (p q : Fin 512) :
    k3_pay9 (F := Ideal) a s d mo (ix2 p q) = Ideal.exp (k3_pay7 (F := Ideal) a s d (ix2 p q) - mNew (F := Ideal) a s d mo (ix2 p (0 : Fin 1))) := by
  pointwise [k3_pay9, mNew, k3_pay11]

/-- The factor that moves the old sums to the new maximum. -/
theorem pay10_at (a : FVec Ideal S512x512 .f32) (s d mo : FVec Ideal S512x1 .f32) (p : Fin 512) :
    k3_pay10 (F := Ideal) a s d mo (ix2 p (0 : Fin 1)) = Ideal.exp (mo (ix2 p (0 : Fin 1)) - mNew (F := Ideal) a s d mo (ix2 p (0 : Fin 1))) := by
  pointwise [k3_pay10, mNew, k3_pay11]

/-- The running sum after a block. -/
theorem lNew_at (a : FVec Ideal S512x512 .f32) (s d mo lo : FVec Ideal S512x1 .f32) (p : Fin 512) :
    lNew (F := Ideal) a s d mo lo (ix2 p (0 : Fin 1)) = lo (ix2 p (0 : Fin 1)) * k3_pay10 (F := Ideal) a s d mo (ix2 p (0 : Fin 1))
      + ∑ k : Fin 512, k3_pay9 (F := Ideal) a s d mo (ix2 p k) := by
  pointwise [lNew, k3_pay1, k3_pay12, k3_pay13]

/-- The running weighted sum after a block. -/
theorem aNew_at (a : FVec Ideal S512x512 .f32) (s d mo : FVec Ideal S512x1 .f32) (ao w : FVec Ideal S512x128 .f32) (p : Fin 512) (f : Fin 128) :
    aNew (F := Ideal) a s d mo ao w (ix2 p f) = ao (ix2 p f) * k3_pay10 (F := Ideal) a s d mo (ix2 p (0 : Fin 1))
      + ∑ k : Fin 512, k3_pay9 (F := Ideal) a s d mo (ix2 p k) * w (ix2 k f) := by
  pointwise [aNew, k3_pay2]

/-- What a head writes out at the end of a row: the exponential linear unit of the quotient. -/
theorem elu_at (a : FVec Ideal S512x128 .f32) (l : FVec Ideal S512x1 .f32) (p : Fin 512) (f : Fin 128) :
    k1_pay3 (F := Ideal) a l (ix2 p f) = eluE (Ideal.div (a (ix2 p f)) (l (ix2 p (0 : Fin 1)))) := by
  pointwise [k1_pay3]
  rfl

/-- What the last layer writes out at the end of a row. -/
theorem out3_at (a : FVec Ideal S512x128 .f32) (l : FVec Ideal S512x1 .f32) (z : Fin 512 → Fin 128 → EReal)
    (hz : ∀ p f, eluE (Ideal.div (a (ix2 p f)) (l (ix2 p (0 : Fin 1)))) = z p f) (p : Fin 512) (f : Fin 128) :
    k3_pay3 (F := Ideal) a l (ix2 p f) = (z p f - Finset.univ.fold max (⊥ : EReal) (z p))
      - Ideal.log (∑ k : Fin 128, Ideal.exp (z p k - Finset.univ.fold max (⊥ : EReal) (z p))) := by
  pointwise [k3_pay3]
  obtain rfl : z = fun p f => eluE (Ideal.div (a (ix2 p f)) (l (ix2 p (0 : Fin 1)))) := funext fun p => funext fun f => (hz p f).symm
  rw [bot_eq]
  rfl

/-- One block moves what a row carries 512 columns on. -/
theorem row_step (a : FVec Ideal S512x512 .f32) (s d mo lo : FVec Ideal S512x1 .f32) (ao w : FVec Ideal S512x128 .f32) (p : Fin 512) (f : Fin 128)
    (e g : ℕ → ℝ) (n : ℕ) (he : ∀ k : Fin 512, scoreE (a (ix2 p k)) (s (ix2 p (0 : Fin 1)) + d (ix2 k (0 : Fin 1))) = (e (n + k) : EReal))
    (hg : ∀ k : Fin 512, w (ix2 k f) = (g (n + k) : EReal)) (h : Held e g n (mo (ix2 p (0 : Fin 1))) (lo (ix2 p (0 : Fin 1))) (ao (ix2 p f))) :
    Held e g (n + 512) (mNew (F := Ideal) a s d mo (ix2 p (0 : Fin 1))) (lNew (F := Ideal) a s d mo lo (ix2 p (0 : Fin 1)))
      (aNew (F := Ideal) a s d mo ao w (ix2 p f)) := by
  have h7 : ∀ k : Fin 512, k3_pay7 (F := Ideal) a s d (ix2 p k) = (e (n + k) : EReal) := fun k => (pay7_at a s d p k).trans (he k)
  obtain ⟨X, hX⟩ := fold_max_real (n := 511) fun k : Fin 512 => e (n + k)
  have hm : mNew (F := Ideal) a s d mo (ix2 p (0 : Fin 1)) = max (mo (ix2 p (0 : Fin 1))) (X : EReal) := by
    rw [mNew_at, ← hX]
    exact congrArg (fun u : Fin 512 → EReal => max (mo (ix2 p (0 : Fin 1))) (Finset.univ.fold max (⊥ : EReal) u)) (funext h7)
  have hl : lNew (F := Ideal) a s d mo lo (ix2 p (0 : Fin 1)) = lo (ix2 p (0 : Fin 1)) * Ideal.exp (mo (ix2 p (0 : Fin 1)) - max (mo (ix2 p (0 : Fin 1))) (X : EReal))
      + ∑ k : Fin 512, Ideal.exp ((e (n + k) : EReal) - max (mo (ix2 p (0 : Fin 1))) (X : EReal)) := by
    rw [lNew_at, pay10_at, hm]
    refine congrArg₂ HAdd.hAdd rfl (Finset.sum_congr rfl fun k _ => ?_)
    rw [pay9_at, h7, hm]
  have ha : aNew (F := Ideal) a s d mo ao w (ix2 p f) = ao (ix2 p f) * Ideal.exp (mo (ix2 p (0 : Fin 1)) - max (mo (ix2 p (0 : Fin 1))) (X : EReal))
      + ∑ k : Fin 512, Ideal.exp ((e (n + k) : EReal) - max (mo (ix2 p (0 : Fin 1))) (X : EReal)) * (g (n + k) : EReal) := by
    rw [aNew_at, pay10_at, hm]
    refine congrArg₂ HAdd.hAdd rfl (Finset.sum_congr rfl fun k _ => ?_)
    rw [pay9_at, h7, hm, hg]
  rw [hm, hl, ha]
  exact h.step (by omega) X

/-- What a row starts from. -/
theorem row_init (e g : ℕ → ℝ) (p : Fin 512) (f : Fin 128) :
    Held e g 0 (k3_pay4 (F := Ideal) (ix2 p (0 : Fin 1))) (k3_pay5 (F := Ideal) (ix2 p (0 : Fin 1))) (k3_pay6 (F := Ideal) (ix2 p f)) := by
  refine .inl ⟨rfl, ?_, ?_, ?_⟩
  · rw [← bot_eq]
    pointwise [k3_pay4]
  · pointwise [k3_pay5]
  · pointwise [k3_pay6]

end Cert.KernelIdeal.Gat

end
-- ==== Proof.Gat.Val1.lean ====
/- What the first attention layer leaves: in every head the streaming rows end at the attention rows. -/
module

public import proofs.«01_k».proof.Proof.Gat.Reg1
public import proofs.«01_k».proof.Proof.Gat.Step
public import Idealize.ShloMosaic.Lib.Pointwise
public import Idealize.ShloMosaic.Lib.Pipeline.ValueKit

@[expose] public section

set_option maxRecDepth 16384

noncomputable section

namespace Cert.KernelIdeal.Gat

open Cert.KernelIdeal Cert.KernelIdeal.Gen
open Idealize.ShloMosaic Idealize.ShloMosaic.TcCoe
open Idealize.ShloMosaic.Pipeline (Dat Cfg Window)

open Cert.Gat

/-- Column `f` of head `h`. -/
abbrev hcol (h : Fin 4) (f : Fin 128) : Fin 512 := ⟨128 * h.val + f.val, by omega⟩

/-- Four columns laid side by side, read at an entry. -/
theorem cols_at (g : Fin 4 → Vec Ideal S512x1 .f32) (p : Fin 512) (h : Fin 4) : cols (F := Ideal) g (ix2 p h) = g h (ix2 p (0 : Fin 1)) := by
  have key : ∀ (h' : Fin 4) (x : S512x1.Idx), (rC h').emb x = ix2 p h → g h' x = g h (ix2 p (0 : Fin 1)) := by
    intro h' x hx
    have e0 : 0 + 1 * (x 0).val = p.val := by simpa using congrArg Fin.val (congrFun hx 0)
    have e1 : h'.val + 1 * (x 1).val = h.val := by simpa using congrArg Fin.val (congrFun hx 1)
    have b1 : (x 1).val < 1 := (x 1).isLt
    obtain rfl : h' = h := Fin.ext (by omega)
    refine congrArg (g h') (funext fun a => Fin.ext ?_)
    match a with
    | 0 => show (x 0).val = p.val; omega
    | 1 => show (x 1).val = 0; omega
  refine View.canon_eq_of_allAt _ _ _ (View.cover_of_tiled _ ![512, 1] (by rfl) _) fun q hq x hx => ?_
  simp only [List.mem_cons, List.not_mem_nil, or_false] at hq
  rcases hq with rfl | rfl | rfl | rfl <;> exact key _ x hx

/-- Four blocks of 128 columns laid side by side, read at an entry. -/
theorem heads_at (g : Fin 4 → Vec Ideal S512x128 .f32) (p : Fin 512) (h : Fin 4) (f : Fin 128) : heads (F := Ideal) g (ix2 p (hcol h f)) = g h (ix2 p f) := by
  have key : ∀ (h' : Fin 4) (x : S512x128.Idx), (rH h').emb x = ix2 p (hcol h f) → g h' x = g h (ix2 p f) := by
    intro h' x hx
    have e0 : 0 + 1 * (x 0).val = p.val := by simpa using congrArg Fin.val (congrFun hx 0)
    have e1 : 128 * h'.val + 1 * (x 1).val = 128 * h.val + f.val := by simpa using congrArg Fin.val (congrFun hx 1)
    have b1 : (x 1).val < 128 := (x 1).isLt
    obtain rfl : h' = h := Fin.ext (by omega)
    refine congrArg (g h') (funext fun a => Fin.ext ?_)
    match a with
    | 0 => show (x 0).val = p.val; omega
    | 1 => show (x 1).val = f.val; omega
  refine View.canon_eq_of_allAt _ _ _ (View.cover_of_tiled _ ![512, 128] (by rfl) _) fun q hq x hx => ?_
  simp only [List.mem_cons, List.not_mem_nil, or_false] at hq
  rcases hq with rfl | rfl | rfl | rfl <;> exact key _ x hx

/-- A column of a 512 by 4 buffer, read at an entry. -/
theorem ldC_at (v : Vec Ideal S512x4 .f32) (h : Fin 4) (p : Fin 512) : View.ld v (rC h) (ix2 p (0 : Fin 1)) = v (ix2 p h) := by
  refine congrArg v (funext fun a => Fin.ext ?_)
  match a with
  | 0 => show 0 + 1 * p.val = p.val; omega
  | 1 => show h.val + 1 * 0 = h.val; omega

/-- The columns of a head in a 512 by 512 buffer, read at an entry. -/
theorem ldH_at (v : Vec Ideal S512x512 .f32) (h : Fin 4) (p : Fin 512) (f : Fin 128) : View.ld v (rH h) (ix2 p f) = v (ix2 p (hcol h f)) := by
  refine congrArg v (funext fun a => Fin.ext ?_)
  match a with
  | 0 => show 0 + 1 * p.val = p.val; omega
  | 1 => show 128 * h.val + 1 * f.val = 128 * h.val + f.val; omega

variable (V : Dev nD → Valuation τ sig (Elt Ideal))

/-- Where the blocks of region 1 lie. -/
theorem at1 : ∀ t : Fin cfg1.N, ((cfg1.win 0).index t 0 = t.val / 8 ∧ (cfg1.win 0).index t 1 = t.val % 8) ∧ ((cfg1.win 1).index t 0 = t.val / 8 ∧ (cfg1.win 1).index t 1 = 0)
    ∧ ((cfg1.win 2).index t 0 = t.val % 8 ∧ (cfg1.win 2).index t 1 = 0) ∧ ((cfg1.win 3).index t 0 = t.val % 8 ∧ (cfg1.win 3).index t 1 = 0)
    ∧ ((cfg1.win 4).index t 0 = t.val / 8 ∧ (cfg1.win 4).index t 1 = 0) := by decide +kernel

/-- A row block's rows are rows of the array. -/
theorem rlt1 (t : Fin cfg1.N) (p : ℕ) (hp : p < 512) : 512 * (t.val / 8) + p < 4096 := by
  have : t.val < 64 := t.isLt
  omega

/-- A column block's columns are columns of the array. -/
theorem clt1 (t : Fin cfg1.N) (p : ℕ) (hp : p < 512) : 512 * (t.val % 8) + p < 4096 := by
  omega

/-- A block of the edges. -/
theorem blk1_0 (c : Dev nD) (t : Fin cfg1.N) (p q : Fin 512) (h : 512 * (t.val / 8) + p.val < 4096) (h' : 512 * (t.val % 8) + q.val < 4096) :
    iblk1 V c 0 t (ix2 p q) = V c (Proc.devRef .tc main_arg1) (ix2 (⟨512 * (t.val / 8) + p.val, h⟩ : Fin 4096) (⟨512 * (t.val % 8) + q.val, h'⟩ : Fin 4096)) := by
  obtain ⟨⟨h00, h01⟩, -⟩ := at1 t
  blk_ext [iblk1, h00, h01]

/-- A block of the row halves of the logits. -/
theorem blk1_1 (c : Dev nD) (t : Fin cfg1.N) (p : Fin 512) (z : Fin 4) (h : 512 * (t.val / 8) + p.val < 4096) :
    iblk1 V c 1 t (ix2 p z) = V c (Proc.devRef .tc main_v51_1) (ix2 (⟨512 * (t.val / 8) + p.val, h⟩ : Fin 4096) z) := by
  obtain ⟨-, ⟨h00, h01⟩, -⟩ := at1 t
  blk_ext [iblk1, h00, h01]

/-- A block of the column halves of the logits. -/
theorem blk1_2 (c : Dev nD) (t : Fin cfg1.N) (p : Fin 512) (z : Fin 4) (h : 512 * (t.val % 8) + p.val < 4096) :
    iblk1 V c 2 t (ix2 p z) = V c (Proc.devRef .tc main_v51_2) (ix2 (⟨512 * (t.val % 8) + p.val, h⟩ : Fin 4096) z) := by
  obtain ⟨-, -, ⟨h00, h01⟩, -⟩ := at1 t
  blk_ext [iblk1, h00, h01]

/-- A block of the projected features. -/
theorem blk1_3 (c : Dev nD) (t : Fin cfg1.N) (p : Fin 512) (f : Fin 512) (h : 512 * (t.val % 8) + p.val < 4096) :
    iblk1 V c 3 t (ix2 p f) = V c (Proc.devRef .tc main_v51_0) (ix2 (⟨512 * (t.val % 8) + p.val, h⟩ : Fin 4096) f) := by
  obtain ⟨-, -, -, ⟨h00, h01⟩, -⟩ := at1 t
  blk_ext [iblk1, h00, h01]

/-- Where the output window places a block's entry. -/
theorem emb1_4 (t : Fin cfg1.N) (y : S512x512.Idx) (h : 512 * (t.val / 8) + (y 0).val < 4096) :
    ((cfg1.win 4).blk t).view.emb y = ix2 (⟨512 * (t.val / 8) + (y 0).val, h⟩ : Fin 4096) (y 1) := by
  obtain ⟨-, -, -, -, ⟨h40, h41⟩⟩ := at1 t
  blk_ext [h40, h41]

/-- The output is written back at the last block of a row. -/
theorem flush1_4 : ∀ t : Fin cfg1.N, (cfg1.win 4).flush t = true → t.val % 8 = 7 := by decide +kernel

section rows

variable (c : Dev nD) (E : ℕ → ℕ → ℕ → ℝ) (G : ℕ → ℕ → ℝ)
  (adj : FVec Ideal ⟨2, ![4096, 4096]⟩ .f32) (es ed : FVec Ideal ⟨2, ![4096, 4]⟩ .f32) (wh : FVec Ideal ⟨2, ![4096, 512]⟩ .f32)
  (hadj : V c (Proc.devRef .tc main_arg1) = adj) (hes : V c (Proc.devRef .tc main_v51_1) = es)
  (hed : V c (Proc.devRef .tc main_v51_2) = ed) (hwh : V c (Proc.devRef .tc main_v51_0) = wh)
  (hE : ∀ (h : Fin 4) (i j : Fin 4096), scoreE (adj (ix2 i j)) (es (ix2 i h) + ed (ix2 j h)) = (E h i j : EReal))
  (hG : ∀ (j : Fin 4096) (k : Fin 512), wh (ix2 j k) = (G k j : EReal))

/-- What head `h` carries in row `p` of a state, for its column `f`, after `n` columns of row `r`. -/
def HeldAt (r n : ℕ) (s : St1 Ideal) (p : Fin 512) (h : Fin 4) (f : Fin 128) : Prop :=
  Held (E h r) (G (128 * h.val + f.val)) n (s.1 (ix2 p h)) (s.2.1 (ix2 p h)) (s.2.2 (ix2 p (hcol h f)))

/-- Every head starts from nothing. -/
theorem init1_held (r : ℕ) (p : Fin 512) (h : Fin 4) (f : Fin 128) : HeldAt E G r 0 (init1 (F := Ideal)) p h f := by
  refine .inl ⟨rfl, ?_, ?_, ?_⟩
  · rw [← bot_eq]
    pointwise [init1, k1_pay6]
  · pointwise [init1, k1_pay7]
  · pointwise [init1, k1_pay8]

include hadj hes hed hwh hE hG

/-- One step of region 1 at a point, whatever state it starts from. -/
theorem held_step1 (t : Fin cfg1.N) (s : St1 Ideal) (p : Fin 512) (h : Fin 4) (f : Fin 128)
    (H : HeldAt E G (512 * (t.val / 8) + p.val) (512 * (t.val % 8)) s p h f) :
    HeldAt E G (512 * (t.val / 8) + p.val) (512 * (t.val % 8) + 512)
      (step1 (F := Ideal) (iblk1 V c 0 t) (iblk1 V c 1 t) (iblk1 V c 2 t) (iblk1 V c 3 t) s) p h f := by
  unfold HeldAt step1
  dsimp only
  rw [cols_at, cols_at, heads_at]
  refine row_step (iblk1 V c 0 t) (View.ld (iblk1 V c 1 t) (rC h)) (View.ld (iblk1 V c 2 t) (rC h)) (View.ld s.1 (rC h)) (View.ld s.2.1 (rC h)) (View.ld s.2.2 (rH h))
    (View.ld (iblk1 V c 3 t) (rH h)) p f _ _ _ (fun k => ?_) (fun k => ?_) ?_
  · refine Eq.trans ?_ (hE h ⟨512 * (t.val / 8) + p.val, rlt1 t _ p.isLt⟩ ⟨512 * (t.val % 8) + k.val, clt1 t _ k.isLt⟩)
    subst hadj hes hed
    exact congrArg₂ scoreE (blk1_0 V c t p k _ _) (congrArg₂ (HAdd.hAdd (α := EReal) (β := EReal)) ((ldC_at _ h p).trans (blk1_1 V c t p h _)) ((ldC_at _ h k).trans (blk1_2 V c t k h _)))
  · subst hwh
    exact ((ldH_at _ h k f).trans (blk1_3 V c t k (hcol h f) (clt1 t _ k.isLt))).trans (hG ⟨512 * (t.val % 8) + k.val, clt1 t _ k.isLt⟩ (hcol h f))
  · rw [ldC_at, ldC_at, ldH_at]
    exact H

/-- What a row carries after every point of region 1. -/
theorem held1 (n : ℕ) (hn : n < cfg1.N) (p : Fin 512) (h : Fin 4) (f : Fin 128) :
    HeldAt E G (512 * (n / 8) + p.val) (512 * (n % 8) + 512) (stAt1 V c n hn) p h f := by
  induction n with
  | zero =>
    rw [show stAt1 V c 0 hn = _ from stAt1_first V c ⟨0, hn⟩ rfl]
    exact held_step1 V c E G adj es ed wh hadj hes hed hwh hE hG ⟨0, hn⟩ _ p h f (init1_held _ _ _ p h f)
  | succ n ih =>
    by_cases h0 : (n + 1) % 8 = 0
    · rw [show stAt1 V c (n + 1) hn = _ from stAt1_first V c ⟨n + 1, hn⟩ h0]
      refine held_step1 V c E G adj es ed wh hadj hes hed hwh hE hG ⟨n + 1, hn⟩ _ p h f ?_
      rw [show 512 * ((⟨n + 1, hn⟩ : Fin cfg1.N).val % 8) = 0 from by show 512 * ((n + 1) % 8) = 0; omega]
      exact init1_held _ _ _ p h f
    · rw [show stAt1 V c (n + 1) hn = _ from stAt1_next V c ⟨n + 1, hn⟩ h0 (Nat.lt_of_succ_lt hn)]
      refine held_step1 V c E G adj es ed wh hadj hes hed hwh hE hG ⟨n + 1, hn⟩ _ p h f ?_
      have H := ih (Nat.lt_of_succ_lt hn)
      rw [show (n + 1) / 8 = n / 8 from by omega, show 512 * ((n + 1) % 8) = 512 * (n % 8) + 512 from by omega]
      exact H

/-- The hidden features after the first layer, at a node. -/
theorem arr1 : (dat1 V c).arrAt 4 cfg1.N = (fun i : S4096x512.Idx => (elu (att 4096 (E ((i 1).val / 128) (i 0).val) (G (i 1).val)) : EReal) : FVec Ideal S4096x512 .f32) := by
  refine (dat1 V c).arrAt_eq_of_covers 4 _ (by decide +kernel) fun t hf y => ?_
  have h7 := flush1_4 t hf
  rw [emb1_4 t y (rlt1 t _ (y 0).isLt), after1_4]
  obtain ⟨p, h, f, rfl⟩ : ∃ (p : Fin 512) (h : Fin 4) (f : Fin 128), y = ix2 p (hcol h f) := by
    have hy : (y 1).val < 512 := (y 1).isLt
    refine ⟨y 0, ⟨(y 1).val / 128, by omega⟩, ⟨(y 1).val % 128, by omega⟩, funext fun a => Fin.ext ?_⟩
    match a with
    | 0 => rfl
    | 1 => show (y 1).val = 128 * ((y 1).val / 128) + (y 1).val % 128; omega
  have H := held1 V c E G adj es ed wh hadj hes hed hwh hE hG t.val t.isLt p h f
  unfold HeldAt at H
  rw [h7] at H
  have K : out1 (F := Ideal) (stAt1 V c t.val t.isLt) (ix2 p (hcol h f))
      = ((elu (att 4096 (E h.val (512 * (t.val / 8) + p.val)) (G (128 * h.val + f.val))) : ℝ) : EReal) := by
    unfold out1
    rw [heads_at, elu_at, ldC_at, ldH_at, H.quot (by omega), eluE_coe]
  generalize out1 (F := Ideal) (stAt1 V c t.val t.isLt) = S at K ⊢
  refine Eq.trans K ?_
  show _ = ((elu (att 4096 (E ((128 * h.val + f.val) / 128) (512 * (t.val / 8) + p.val)) (G (128 * h.val + f.val))) : ℝ) : EReal)
  rw [show (128 * h.val + f.val) / 128 = h.val from by omega]

end rows

end Cert.KernelIdeal.Gat

end
-- ==== Proof.Gat.Val2.lean ====
/- What the arrays of region 2 hold after it, as sums. -/
module

public import proofs.«01_k».proof.Proof.Gat.Reg2
public import proofs.«01_k».proof.Proof.Gat.Lin
public import Idealize.ShloMosaic.Lib.Pointwise
public import Idealize.ShloMosaic.Lib.Pipeline.ValueKit

@[expose] public section

set_option maxRecDepth 16384

noncomputable section

namespace Cert.KernelIdeal.Gat

open Cert.KernelIdeal Cert.KernelIdeal.Gen
open Idealize.ShloMosaic Idealize.ShloMosaic.TcCoe
open Idealize.ShloMosaic.Pipeline (Dat Cfg Window)

open Cert.Gat

variable (V : Dev nD → Valuation τ sig (Elt Ideal))

/-- The first payload is a product. -/
theorem pay2_1 (x : FVec Ideal S512x512 .f32) (w : FVec Ideal S512x128 .f32) : k2_pay1 (F := Ideal) x w = prodAt x w := by
  funext j
  pointwise [k2_pay1, prodAt]

/-- So is the second, of the first. -/
theorem pay2_2 (x : FVec Ideal S512x512 .f32) (w : FVec Ideal S512x128 .f32) (a : FVec Ideal S128x1 .f32) : k2_pay2 (F := Ideal) x w a = prodAt (prodAt x w) a := by
  rw [← pay2_1]
  funext j
  pointwise [k2_pay2, prodAt]

/-- And the third. -/
theorem pay2_3 (x : FVec Ideal S512x512 .f32) (w : FVec Ideal S512x128 .f32) (a : FVec Ideal S128x1 .f32) : k2_pay3 (F := Ideal) x w a = prodAt (prodAt x w) a := by
  rw [← pay2_1]
  funext j
  pointwise [k2_pay3, prodAt]

/-- Where the blocks of region 2 lie: the rows move with the point, the weights stay. -/
theorem at2 : ∀ t : Fin cfg2.N, ((cfg2.win 0).index t 0 = t.val ∧ (cfg2.win 0).index t 1 = 0) ∧ ((cfg2.win 1).index t 0 = 0 ∧ (cfg2.win 1).index t 1 = 0)
    ∧ ((cfg2.win 2).index t 0 = 0 ∧ (cfg2.win 2).index t 1 = 0) ∧ ((cfg2.win 3).index t 0 = 0 ∧ (cfg2.win 3).index t 1 = 0)
    ∧ ((cfg2.win 4).index t 0 = t.val ∧ (cfg2.win 4).index t 1 = 0) ∧ ((cfg2.win 5).index t 0 = t.val ∧ (cfg2.win 5).index t 1 = 0)
    ∧ ((cfg2.win 6).index t 0 = t.val ∧ (cfg2.win 6).index t 1 = 0) := by decide +kernel

/-- A row block of the input lies at its 512 rows. -/
theorem blk2_0 (c : Dev nD) (t : Fin cfg2.N) (p : Fin 512) (k : Fin 512) (h : 512 * t.val + p.val < 4096) :
    iblk2 V c 0 t (ix2 p k) = V c (Proc.devRef .tc main_v52) (ix2 (⟨512 * t.val + p.val, h⟩ : Fin 4096) k) := by
  obtain ⟨⟨h00, h01⟩, -⟩ := at2 t
  blk_ext [iblk2, h00, h01]

/-- Window 1 is its whole array at every point. -/
theorem blk2_1 (c : Dev nD) (t : Fin cfg2.N) : iblk2 V c 1 t = V c (Proc.devRef .tc main_arg10) := by
  obtain ⟨-, ⟨h10, h11⟩, ⟨h20, h21⟩, ⟨h30, h31⟩, -⟩ := at2 t
  funext y
  blk_ext [iblk2, h10, h11]

/-- Window 2 is its whole array at every point. -/
theorem blk2_2 (c : Dev nD) (t : Fin cfg2.N) : iblk2 V c 2 t = V c (Proc.devRef .tc main_v53) := by
  obtain ⟨-, ⟨h10, h11⟩, ⟨h20, h21⟩, ⟨h30, h31⟩, -⟩ := at2 t
  funext y
  blk_ext [iblk2, h20, h21]

/-- Window 3 is its whole array at every point. -/
theorem blk2_3 (c : Dev nD) (t : Fin cfg2.N) : iblk2 V c 3 t = V c (Proc.devRef .tc main_v54) := by
  obtain ⟨-, ⟨h10, h11⟩, ⟨h20, h21⟩, ⟨h30, h31⟩, -⟩ := at2 t
  funext y
  blk_ext [iblk2, h30, h31]

/-- Where window 4 places a block's entry. -/
theorem emb2_4 (t : Fin cfg2.N) (y : S512x128.Idx) (h : 512 * t.val + (y 0).val < 4096) :
    ((cfg2.win 4).blk t).view.emb y = ix2 (⟨512 * t.val + (y 0).val, h⟩ : Fin 4096) (y 1) := by
  obtain ⟨-, -, -, -, ⟨h40, h41⟩, ⟨h50, h51⟩, ⟨h60, h61⟩⟩ := at2 t
  blk_ext [h40, h41]

/-- Where window 5 places a block's entry. -/
theorem emb2_5 (t : Fin cfg2.N) (y : S512x1.Idx) (h : 512 * t.val + (y 0).val < 4096) :
    ((cfg2.win 5).blk t).view.emb y = ix2 (⟨512 * t.val + (y 0).val, h⟩ : Fin 4096) (y 1) := by
  obtain ⟨-, -, -, -, ⟨h40, h41⟩, ⟨h50, h51⟩, ⟨h60, h61⟩⟩ := at2 t
  blk_ext [h50, h51]

/-- Where window 6 places a block's entry. -/
theorem emb2_6 (t : Fin cfg2.N) (y : S512x1.Idx) (h : 512 * t.val + (y 0).val < 4096) :
    ((cfg2.win 6).blk t).view.emb y = ix2 (⟨512 * t.val + (y 0).val, h⟩ : Fin 4096) (y 1) := by
  obtain ⟨-, -, -, -, ⟨h40, h41⟩, ⟨h50, h51⟩, ⟨h60, h61⟩⟩ := at2 t
  blk_ext [h60, h61]

/-- A point's rows are rows of the array. -/
theorem row2_lt (t : Fin cfg2.N) (p : ℕ) (hp : p < 512) : 512 * t.val + p < 4096 := by
  have : t.val < 8 := t.isLt
  omega

/-- The projected features after region 2. -/
theorem arr2_4 (c : Dev nD) : (dat2 V c).arrAt 4 cfg2.N = prodAt (V c (Proc.devRef .tc main_v52)) (V c (Proc.devRef .tc main_arg10)) := by
  refine (dat2 V c).arrAt_eq_of_covers 4 _ (by decide +kernel) fun t hf y => ?_
  rw [emb2_4 t y (row2_lt t _ (y 0).isLt), after2_4, pay2_1]
  exact prodAt_congr (fun k => blk2_0 V c t (y 0) k _) (fun k => congrFun (blk2_1 V c t) _)

/-- A logit half after region 2: the projected features against window 2. -/
theorem arr2_5 (c : Dev nD) : (dat2 V c).arrAt 5 cfg2.N = prodAt (prodAt (V c (Proc.devRef .tc main_v52)) (V c (Proc.devRef .tc main_arg10))) (V c (Proc.devRef .tc main_v53)) := by
  refine (dat2 V c).arrAt_eq_of_covers 5 _ (by decide +kernel) fun t hf y => ?_
  rw [emb2_5 t y (row2_lt t _ (y 0).isLt), after2_5, pay2_2]
  exact prodAt_congr (fun q => prodAt_congr (fun k => blk2_0 V c t (y 0) k _) (fun k => congrFun (blk2_1 V c t) _)) (fun q => congrFun (blk2_2 V c t) _)

/-- A logit half after region 2: the projected features against window 3. -/
theorem arr2_6 (c : Dev nD) : (dat2 V c).arrAt 6 cfg2.N = prodAt (prodAt (V c (Proc.devRef .tc main_v52)) (V c (Proc.devRef .tc main_arg10))) (V c (Proc.devRef .tc main_v54)) := by
  refine (dat2 V c).arrAt_eq_of_covers 6 _ (by decide +kernel) fun t hf y => ?_
  rw [emb2_6 t y (row2_lt t _ (y 0).isLt), after2_6, pay2_3]
  exact prodAt_congr (fun q => prodAt_congr (fun k => blk2_0 V c t (y 0) k _) (fun k => congrFun (blk2_1 V c t) _)) (fun q => congrFun (blk2_3 V c t) _)

end Cert.KernelIdeal.Gat

end
-- ==== Proof.Gat.Val3.lean ====
/- What the second attention layer leaves: the streaming rows end at the logarithm of the softmax of the attention rows. -/
module

public import proofs.«01_k».proof.Proof.Gat.Reg3
public import proofs.«01_k».proof.Proof.Gat.Step
public import Idealize.ShloMosaic.Lib.Pointwise
public import Idealize.ShloMosaic.Lib.Pipeline.ValueKit

@[expose] public section

set_option maxRecDepth 16384

noncomputable section

namespace Cert.KernelIdeal.Gat

open Cert.KernelIdeal Cert.KernelIdeal.Gen
open Idealize.ShloMosaic Idealize.ShloMosaic.TcCoe
open Idealize.ShloMosaic.Pipeline (Dat Cfg Window)

open Cert.Gat

variable (V : Dev nD → Valuation τ sig (Elt Ideal))

/-- Where the blocks of region 3 lie. -/
theorem at3 : ∀ t : Fin cfg3.N, ((cfg3.win 0).index t 0 = t.val / 8 ∧ (cfg3.win 0).index t 1 = t.val % 8) ∧ ((cfg3.win 1).index t 0 = t.val / 8 ∧ (cfg3.win 1).index t 1 = 0)
    ∧ ((cfg3.win 2).index t 0 = t.val % 8 ∧ (cfg3.win 2).index t 1 = 0) ∧ ((cfg3.win 3).index t 0 = t.val % 8 ∧ (cfg3.win 3).index t 1 = 0)
    ∧ ((cfg3.win 4).index t 0 = t.val / 8 ∧ (cfg3.win 4).index t 1 = 0) := by decide +kernel

/-- A row block's rows are rows of the array. -/
theorem rlt3 (t : Fin cfg3.N) (p : ℕ) (hp : p < 512) : 512 * (t.val / 8) + p < 4096 := by
  have : t.val < 64 := t.isLt
  omega

/-- A column block's columns are columns of the array. -/
theorem clt3 (t : Fin cfg3.N) (p : ℕ) (hp : p < 512) : 512 * (t.val % 8) + p < 4096 := by
  omega

/-- A block of the edges. -/
theorem blk3_0 (c : Dev nD) (t : Fin cfg3.N) (p q : Fin 512) (h : 512 * (t.val / 8) + p.val < 4096) (h' : 512 * (t.val % 8) + q.val < 4096) :
    iblk3 V c 0 t (ix2 p q) = V c (Proc.devRef .tc main_arg1) (ix2 (⟨512 * (t.val / 8) + p.val, h⟩ : Fin 4096) (⟨512 * (t.val % 8) + q.val, h'⟩ : Fin 4096)) := by
  obtain ⟨⟨h00, h01⟩, -⟩ := at3 t
  blk_ext [iblk3, h00, h01]

/-- A block of the row halves of the logits. -/
theorem blk3_1 (c : Dev nD) (t : Fin cfg3.N) (p : Fin 512) (z : Fin 1) (h : 512 * (t.val / 8) + p.val < 4096) :
    iblk3 V c 1 t (ix2 p z) = V c (Proc.devRef .tc main_v55_1) (ix2 (⟨512 * (t.val / 8) + p.val, h⟩ : Fin 4096) z) := by
  obtain ⟨-, ⟨h00, h01⟩, -⟩ := at3 t
  blk_ext [iblk3, h00, h01]

/-- A block of the column halves of the logits. -/
theorem blk3_2 (c : Dev nD) (t : Fin cfg3.N) (p : Fin 512) (z : Fin 1) (h : 512 * (t.val % 8) + p.val < 4096) :
    iblk3 V c 2 t (ix2 p z) = V c (Proc.devRef .tc main_v55_2) (ix2 (⟨512 * (t.val % 8) + p.val, h⟩ : Fin 4096) z) := by
  obtain ⟨-, -, ⟨h00, h01⟩, -⟩ := at3 t
  blk_ext [iblk3, h00, h01]

/-- A block of the projected features. -/
theorem blk3_3 (c : Dev nD) (t : Fin cfg3.N) (p : Fin 512) (f : Fin 128) (h : 512 * (t.val % 8) + p.val < 4096) :
    iblk3 V c 3 t (ix2 p f) = V c (Proc.devRef .tc main_v55_0) (ix2 (⟨512 * (t.val % 8) + p.val, h⟩ : Fin 4096) f) := by
  obtain ⟨-, -, -, ⟨h00, h01⟩, -⟩ := at3 t
  blk_ext [iblk3, h00, h01]

/-- Where the output window places a block's entry. -/
theorem emb3_4 (t : Fin cfg3.N) (y : S512x128.Idx) (h : 512 * (t.val / 8) + (y 0).val < 4096) :
    ((cfg3.win 4).blk t).view.emb y = ix2 (⟨512 * (t.val / 8) + (y 0).val, h⟩ : Fin 4096) (y 1) := by
  obtain ⟨-, -, -, -, ⟨h40, h41⟩⟩ := at3 t
  blk_ext [h40, h41]

/-- The output is written back at the last block of a row. -/
theorem flush3_4 : ∀ t : Fin cfg3.N, (cfg3.win 4).flush t = true → t.val % 8 = 7 := by decide +kernel

section rows

variable (c : Dev nD) (E : ℕ → ℕ → ℝ) (G : ℕ → ℕ → ℝ)
  (adj : FVec Ideal ⟨2, ![4096, 4096]⟩ .f32) (es ed : FVec Ideal ⟨2, ![4096, 1]⟩ .f32) (wh : FVec Ideal ⟨2, ![4096, 128]⟩ .f32)
  (hadj : V c (Proc.devRef .tc main_arg1) = adj) (hes : V c (Proc.devRef .tc main_v55_1) = es)
  (hed : V c (Proc.devRef .tc main_v55_2) = ed) (hwh : V c (Proc.devRef .tc main_v55_0) = wh)
  (hE : ∀ i j : Fin 4096, scoreE (adj (ix2 i j)) (es (ix2 i (0 : Fin 1)) + ed (ix2 j (0 : Fin 1))) = (E i j : EReal))
  (hG : ∀ (j : Fin 4096) (f : Fin 128), wh (ix2 j f) = (G f j : EReal))

include hadj hes hed hwh hE hG

/-- One step of region 3 at a point, whatever state it starts from. -/
theorem held_step3 (t : Fin cfg3.N) (s : St3 Ideal) (p : Fin 512) (f : Fin 128)
    (h : Held (E (512 * (t.val / 8) + p.val)) (G f) (512 * (t.val % 8)) (s.1 (ix2 p (0 : Fin 1))) (s.2.1 (ix2 p (0 : Fin 1))) (s.2.2 (ix2 p f))) :
    Held (E (512 * (t.val / 8) + p.val)) (G f) (512 * (t.val % 8) + 512)
      ((step3 (F := Ideal) (iblk3 V c 0 t) (iblk3 V c 1 t) (iblk3 V c 2 t) (iblk3 V c 3 t) s).1 (ix2 p (0 : Fin 1)))
      ((step3 (F := Ideal) (iblk3 V c 0 t) (iblk3 V c 1 t) (iblk3 V c 2 t) (iblk3 V c 3 t) s).2.1 (ix2 p (0 : Fin 1)))
      ((step3 (F := Ideal) (iblk3 V c 0 t) (iblk3 V c 1 t) (iblk3 V c 2 t) (iblk3 V c 3 t) s).2.2 (ix2 p f)) := by
  refine row_step (iblk3 V c 0 t) (iblk3 V c 1 t) (iblk3 V c 2 t) s.1 s.2.1 s.2.2 (iblk3 V c 3 t) p f _ _ _ (fun k => ?_) (fun k => ?_) h
  · refine Eq.trans ?_ (hE ⟨512 * (t.val / 8) + p.val, rlt3 t _ p.isLt⟩ ⟨512 * (t.val % 8) + k.val, clt3 t _ k.isLt⟩)
    subst hadj hes hed
    exact congrArg₂ scoreE (blk3_0 V c t p k _ _) (congrArg₂ (HAdd.hAdd (α := EReal) (β := EReal)) (blk3_1 V c t p 0 _) (blk3_2 V c t k 0 _))
  · subst hwh
    exact (blk3_3 V c t k f (clt3 t _ k.isLt)).trans (hG ⟨512 * (t.val % 8) + k.val, clt3 t _ k.isLt⟩ f)

/-- What a row carries after every point of region 3. -/
theorem held3 (n : ℕ) (hn : n < cfg3.N) (p : Fin 512) (f : Fin 128) :
    Held (E (512 * (n / 8) + p.val)) (G f) (512 * (n % 8) + 512)
      ((stAt3 V c n hn).1 (ix2 p (0 : Fin 1))) ((stAt3 V c n hn).2.1 (ix2 p (0 : Fin 1))) ((stAt3 V c n hn).2.2 (ix2 p f)) := by
  induction n with
  | zero =>
    rw [show stAt3 V c 0 hn = _ from stAt3_first V c ⟨0, hn⟩ rfl]
    exact held_step3 V c E G adj es ed wh hadj hes hed hwh hE hG ⟨0, hn⟩ _ p f (row_init _ _ p f)
  | succ n ih =>
    by_cases h0 : (n + 1) % 8 = 0
    · rw [show stAt3 V c (n + 1) hn = _ from stAt3_first V c ⟨n + 1, hn⟩ h0]
      refine held_step3 V c E G adj es ed wh hadj hes hed hwh hE hG ⟨n + 1, hn⟩ _ p f ?_
      rw [show 512 * ((⟨n + 1, hn⟩ : Fin cfg3.N).val % 8) = 0 from by show 512 * ((n + 1) % 8) = 0; omega]
      exact row_init _ _ p f
    · rw [show stAt3 V c (n + 1) hn = _ from stAt3_next V c ⟨n + 1, hn⟩ h0 (Nat.lt_of_succ_lt hn)]
      refine held_step3 V c E G adj es ed wh hadj hes hed hwh hE hG ⟨n + 1, hn⟩ _ p f ?_
      have h := ih (Nat.lt_of_succ_lt hn)
      rw [show (n + 1) / 8 = n / 8 from by omega, show 512 * ((n + 1) % 8) = 512 * (n % 8) + 512 from by omega]
      exact h

/-- The result of the second layer at a node. -/
theorem arr3 : (dat3 V c).arrAt 4 cfg3.N = (fun i : S4096x128.Idx => (lsm (fun f : Fin 128 => elu (att 4096 (E (i 0).val) (G f))) (i 1) : EReal) : FVec Ideal S4096x128 .f32) := by
  refine (dat3 V c).arrAt_eq_of_covers 4 _ (by decide +kernel) fun t hf y => ?_
  have h7 := flush3_4 t hf
  rw [emb3_4 t y (rlt3 t _ (y 0).isLt), after3_4]
  obtain ⟨p, f, rfl⟩ : ∃ (p : Fin 512) (f : Fin 128), y = ix2 p f := ⟨y 0, y 1, by funext a; fin_cases a <;> rfl⟩
  have hz : ∀ (p : Fin 512) (f : Fin 128), eluE (Ideal.div ((stAt3 V c t.val t.isLt).2.2 (ix2 p f)) ((stAt3 V c t.val t.isLt).2.1 (ix2 p (0 : Fin 1))))
      = (elu (att 4096 (E (512 * (t.val / 8) + p.val)) (G f)) : EReal) := by
    intro p f
    have h := held3 V c E G adj es ed wh hadj hes hed hwh hE hG t.val t.isLt p f
    rw [h7] at h
    rw [h.quot (by omega), eluE_coe]
  refine (out3_at (stAt3 V c t.val t.isLt).2.2 (stAt3 V c t.val t.isLt).2.1 _ hz p f).trans ?_
  obtain ⟨M, hM⟩ := fold_max_real (n := 127) fun f : Fin 128 => elu (att 4096 (E (512 * (t.val / 8) + p.val)) (G f))
  rw [hM]
  exact lsm_row (by omega) (fun f : Fin 128 => elu (att 4096 (E (512 * (t.val / 8) + p.val)) (G f))) M f

end rows

end Cert.KernelIdeal.Gat

end
-- ==== Proof.Gat.KernelVal.lean ====
/- What the kernel leaves in its result: the two attention layers over the reals. -/
module

public import proofs.«01_k».proof.Proof.Gat.KernelLin
public import proofs.«01_k».proof.Proof.Gat.Val0
public import proofs.«01_k».proof.Proof.Gat.Val1
public import proofs.«01_k».proof.Proof.Gat.Val2
public import proofs.«01_k».proof.Proof.Gat.Val3
public import Idealize.ShloMosaic.Lib.Pointwise
public import Idealize.ShloMosaic.Lib.Pipeline.ValueKit

@[expose] public section

set_option maxRecDepth 16384

noncomputable section

namespace Cert.KernelIdeal.Gat

open Cert.KernelIdeal Cert.KernelIdeal.Gen
open Idealize.ShloMosaic Idealize.ShloMosaic.TcCoe
open Idealize.ShloMosaic.Pipeline (Dat Cfg Window)

open Cert.Gat

variable (m : (ℓ : Loc nD τ sig) → Buf (Elt Ideal) ℓ) (c : Dev nD)

/-- The arguments, as launched: the features. -/
def argX : FVec Ideal S4096x256 .f32 := m ((c.tc : Thread nD τ).loc main_arg0)
/-- The adjacency matrix. -/
def argAdj : FVec Ideal S4096x4096 .f32 := m ((c.tc : Thread nD τ).loc main_arg1)
/-- The weights of the four heads. -/
def argW : Fin 4 → FVec Ideal S256x128 .f32
  | 0 => m ((c.tc : Thread nD τ).loc main_arg2)
  | 1 => m ((c.tc : Thread nD τ).loc main_arg4)
  | 2 => m ((c.tc : Thread nD τ).loc main_arg6)
  | 3 => m ((c.tc : Thread nD τ).loc main_arg8)
/-- The attention vectors of the four heads. -/
def argA : Fin 4 → FVec Ideal S256x1 .f32
  | 0 => m ((c.tc : Thread nD τ).loc main_arg3)
  | 1 => m ((c.tc : Thread nD τ).loc main_arg5)
  | 2 => m ((c.tc : Thread nD τ).loc main_arg7)
  | 3 => m ((c.tc : Thread nD τ).loc main_arg9)
/-- The weights of the last head. -/
def argWo : FVec Ideal S512x128 .f32 := m ((c.tc : Thread nD τ).loc main_arg10)
/-- The attention vector of the last head. -/
def argAo : FVec Ideal S256x1 .f32 := m ((c.tc : Thread nD τ).loc main_arg11)

/-- Every argument but the adjacency matrix is finite. -/
structure FiniteArgs : Prop where
  x : Finite (a := 4096) (b := 256) (argX m c)
  W : ∀ h, Finite (a := 256) (b := 128) (argW m c h)
  A : ∀ h, Finite (a := 256) (b := 1) (argA m c h)
  Wo : Finite (a := 512) (b := 128) (argWo m c)
  Ao : Finite (a := 256) (b := 1) (argAo m c)

/-- The features, read as reals; the other arguments follow likewise. -/
def rX : ℕ → ℕ → ℝ := realAt (a := 4096) (b := 256) (argX m c)
/-- The adjacency matrix. -/
def rAdj : ℕ → ℕ → EReal := natAt (a := 4096) (b := 4096) (argAdj m c)
/-- The weights of the four heads. -/
def rW : ℕ → ℕ → ℕ → ℝ := four fun h => realAt (a := 256) (b := 128) (argW m c h)
/-- The attention vectors of the four heads. -/
def rA : ℕ → ℕ → ℕ → ℝ := four fun h => realAt (a := 256) (b := 1) (argA m c h)
/-- The weights of the last head. -/
def rWo : ℕ → ℕ → ℝ := realAt (a := 512) (b := 128) (argWo m c)
/-- The attention vector of the last head. -/
def rAo : ℕ → ℕ → ℝ := realAt (a := 256) (b := 1) (argAo m c)

/-- The features reach the first projection as launched. -/
theorem A1_x : (A1 m c (Proc.devRef .tc main_arg0) : FVec Ideal S4096x256 .f32) = argX m c :=
  StableHlo.after_of_writes_sub hostOps0 _ hostOps0_writes (r := main_arg0) (by decide)

/-- The weights side by side, when the first projection starts. -/
theorem A1_w : (A1 m c (Proc.devRef .tc main_v0) : FVec Ideal S256x512 .f32) = cat4 (argW m c 0) (argW m c 1) (argW m c 2) (argW m c 3) :=
  host_cat (V0 m c)

/-- The matrix of the first halves. -/
theorem A1_src : (A1 m c (Proc.devRef .tc main_v44) : FVec Ideal S512x4 .f32) = put4 (lo (argA m c 0)) (lo (argA m c 1)) (lo (argA m c 2)) (lo (argA m c 3)) :=
  host_src (V0 m c)

/-- The matrix of the second halves. -/
theorem A1_dst : (A1 m c (Proc.devRef .tc main_v50) : FVec Ideal S512x4 .f32) = put4 (hi (argA m c 0)) (hi (argA m c 1)) (hi (argA m c 2)) (hi (argA m c 3)) :=
  host_dst (V0 m c)

/-- The projected features of the four heads. -/
theorem A2_wh : (A2 m c (Proc.devRef .tc main_v51_0) : FVec Ideal S4096x512 .f32) = prodAt (argX m c) (cat4 (argW m c 0) (argW m c 1) (argW m c 2) (argW m c 3)) := by
  rw [← A1_x, ← A1_w]
  exact (A2_arr m c 4).trans (arr0_4 (A1 m) c)

/-- The first halves of the logits. -/
theorem A2_es : (A2 m c (Proc.devRef .tc main_v51_1) : FVec Ideal S4096x4 .f32) = prodAt (prodAt (argX m c) (cat4 (argW m c 0) (argW m c 1) (argW m c 2) (argW m c 3))) (put4 (lo (argA m c 0)) (lo (argA m c 1)) (lo (argA m c 2)) (lo (argA m c 3))) := by
  rw [← A1_x, ← A1_w, ← A1_src]
  exact (A2_arr m c 5).trans (arr0_5 (A1 m) c)

/-- The second halves of the logits. -/
theorem A2_ed : (A2 m c (Proc.devRef .tc main_v51_2) : FVec Ideal S4096x4 .f32) = prodAt (prodAt (argX m c) (cat4 (argW m c 0) (argW m c 1) (argW m c 2) (argW m c 3))) (put4 (hi (argA m c 0)) (hi (argA m c 1)) (hi (argA m c 2)) (hi (argA m c 3))) := by
  rw [← A1_x, ← A1_w, ← A1_dst]
  exact (A2_arr m c 6).trans (arr0_6 (A1 m) c)

/-- An argument that the projections leave alone reaches the first attention layer as launched. -/
theorem A2_arg (r : Ref sig .tc) (h0 : r ∉ hostOps0_W) (k0 : ∀ w, Pipeline.arrRef cfg0.spec w = r → (cfg0.win w).isOut = false) :
    A2 m c (Proc.devRef .tc r) = V0 m c (Proc.devRef .tc r) :=
  (A2_keep m c r k0).trans (StableHlo.after_of_writes_sub hostOps0 _ hostOps0_writes h0)

/-- The adjacency matrix at the first attention layer. -/
theorem A2_adj : (A2 m c (Proc.devRef .tc main_arg1) : FVec Ideal S4096x4096 .f32) = argAdj m c := A2_arg m c main_arg1 (by decide) (by decide)

/-- The first attention layer leaves the hidden features. -/
theorem A3_hidden (H : FiniteArgs m c) (i : Fin 4096) (k : Fin 512) :
    (A3 m c (Proc.devRef .tc main_v52) : FVec Ideal S4096x512 .f32) (ix2 i k) = (hidden (rAdj m c) (rX m c) (rW m c) (rA m c) i.val k.val : EReal) := by
  have hw := wh1_real (argX m c) (argW m c) H.x H.W
  have hA : ∀ h : Fin 4, rA m c h.val = realAt (a := 256) (b := 1) (argA m c h) := fun h => by
    unfold rA four
    rw [dif_pos h.isLt]
  have hes := half1_real 0 _ (fun h => lo (argA m c h)) _ _ (rA m c) hw (fun h f => by rw [hA]; exact lo_real _ (H.A h) f)
  have hed := half1_real 128 _ (fun h => hi (argA m c h)) _ _ (rA m c) hw (fun h f => by rw [hA]; exact hi_real _ (H.A h) f)
  have key := arr1 (A2 m) c (fun h i j => pairScore (rAdj m c) (proj 256 (rX m c) (rW m c h)) (rA m c h) i j) (projs (rX m c) (rW m c))
    _ _ _ _ (A2_adj m c) (A2_es m c) (A2_ed m c) (A2_wh m c)
    (fun h i j => by
      rw [hes i h, hed j h, ← EReal.coe_add, scoreE_coe]
      unfold pairScore rAdj
      rw [natAt_eq]
      rfl) hw
  exact (congrFun ((A3_arr m c 4).trans key) (ix2 i k)).trans rfl

/-- An argument that nothing has written so far reaches the second projection as launched. -/
theorem A4_arg (r : Ref sig .tc) (h0 : r ∉ hostOps0_W) (h2 : r ∉ hostOps2_W) (k0 : ∀ w, Pipeline.arrRef cfg0.spec w = r → (cfg0.win w).isOut = false)
    (k1 : ∀ w, Pipeline.arrRef cfg1.spec w = r → (cfg1.win w).isOut = false) :
    A4 m c (Proc.devRef .tc r) = V0 m c (Proc.devRef .tc r) :=
  (StableHlo.after_of_writes_sub hostOps2 _ hostOps2_writes h2).trans <| (A3_keep m c r k1).trans <| A2_arg m c r h0 k0

/-- The hidden features when the second projection starts. -/
theorem A4_hidden : (A4 m c (Proc.devRef .tc main_v52) : FVec Ideal S4096x512 .f32) = A3 m c (Proc.devRef .tc main_v52) :=
  StableHlo.after_of_writes_sub hostOps2 _ hostOps2_writes (r := main_v52) (by decide)

/-- The last head's weights. -/
theorem A4_wo : (A4 m c (Proc.devRef .tc main_arg10) : FVec Ideal S512x128 .f32) = argWo m c :=
  A4_arg m c main_arg10 (by decide) (by decide) (by decide) (by decide)

/-- The attention vector before the second host stretch. -/
theorem A3_ao : (A3 m c (Proc.devRef .tc main_arg11) : FVec Ideal S256x1 .f32) = argAo m c :=
  (A3_keep m c main_arg11 (by decide)).trans (A2_arg m c main_arg11 (by decide) (by decide))

/-- Its first half. -/
theorem A4_src : (A4 m c (Proc.devRef .tc main_v53) : FVec Ideal S128x1 .f32) = extractStridedSlice S128x1 ![0, 0] (argAo m c) slices_S256x1_S128x1_0_0 := by
  rw [← A3_ao]
  exact host_src2 (A3 m c)

/-- Its second half. -/
theorem A4_dst : (A4 m c (Proc.devRef .tc main_v54) : FVec Ideal S128x1 .f32) = extractStridedSlice S128x1 ![128, 0] (argAo m c) slices_S256x1_S128x1_128_0 := by
  rw [← A3_ao]
  exact host_dst2 (A3 m c)

/-- The projected hidden features. -/
theorem A5_wh : (A5 m c (Proc.devRef .tc main_v55_0) : FVec Ideal S4096x128 .f32) = prodAt (A3 m c (Proc.devRef .tc main_v52) : FVec Ideal S4096x512 .f32) (argWo m c) := by
  rw [← A4_wo, ← A4_hidden]
  exact (A5_arr m c 4).trans (arr2_4 (A4 m) c)

/-- The first halves of their logits. -/
theorem A5_es : (A5 m c (Proc.devRef .tc main_v55_1) : FVec Ideal S4096x1 .f32) = prodAt (prodAt (A3 m c (Proc.devRef .tc main_v52) : FVec Ideal S4096x512 .f32) (argWo m c)) (extractStridedSlice S128x1 ![0, 0] (argAo m c) slices_S256x1_S128x1_0_0) := by
  rw [← A4_wo, ← A4_hidden, ← A4_src]
  exact (A5_arr m c 5).trans (arr2_5 (A4 m) c)

/-- The second halves of their logits. -/
theorem A5_ed : (A5 m c (Proc.devRef .tc main_v55_2) : FVec Ideal S4096x1 .f32) = prodAt (prodAt (A3 m c (Proc.devRef .tc main_v52) : FVec Ideal S4096x512 .f32) (argWo m c)) (extractStridedSlice S128x1 ![128, 0] (argAo m c) slices_S256x1_S128x1_128_0) := by
  rw [← A4_wo, ← A4_hidden, ← A4_dst]
  exact (A5_arr m c 6).trans (arr2_6 (A4 m) c)

/-- The adjacency matrix at the last attention layer. -/
theorem A5_adj : (A5 m c (Proc.devRef .tc main_arg1) : FVec Ideal S4096x4096 .f32) = argAdj m c :=
  (A5_keep m c main_arg1 (by decide)).trans (A4_arg m c main_arg1 (by decide) (by decide) (by decide) (by decide))

/-- The kernel's result is the two attention layers over the reals. -/
theorem A6_result (H : FiniteArgs m c) (i : Fin 4096) (f : Fin 128) :
    (A6 m c (Proc.devRef .tc main_v56) : FVec Ideal S4096x128 .f32) (ix2 i f) = (result (rAdj m c) (rX m c) (rW m c) (rA m c) (rWo m c) (rAo m c) i.val f : EReal) := by
  have hw := wh2_real (A3 m c (Proc.devRef .tc main_v52)) (argWo m c) _ (A3_hidden m c H) H.Wo
  have hes := half2_real 0 _ _ _ _ hw (slice_lo (argAo m c) H.Ao)
  have hed := half2_real 128 _ _ _ _ hw (slice_hi (argAo m c) H.Ao)
  have key := arr3 (A5 m) c (pairScore (rAdj m c) (proj 512 (hidden (rAdj m c) (rX m c) (rW m c) (rA m c)) (rWo m c)) (rAo m c)) (proj 512 (hidden (rAdj m c) (rX m c) (rW m c) (rA m c)) (rWo m c))
    _ _ _ _ (A5_adj m c) (A5_es m c) (A5_ed m c) (A5_wh m c)
    (fun i j => by
      rw [hes i, hed j, ← EReal.coe_add, scoreE_coe]
      unfold pairScore rAdj
      rw [natAt_eq]
      rfl) (fun j f => hw j f)
  exact (congrFun ((A6_arr m c 4).trans key) (ix2 i f)).trans rfl

end Cert.KernelIdeal.Gat

end
-- ==== Proof.Gat.Frames.lean ====
/- The frames of the rounding-free kernel. -/
module

public import proofs.«01_k».proof.Defs
public import proofs.«01_k».proof.Proof.Gat.Ends

@[expose] public section

set_option maxRecDepth 16384

noncomputable section

namespace Cert.Gat

open Idealize.ShloMosaic Idealize.SL.Sem

/-- The side conditions of the precondition's operations. -/
theorem preFacts : Pre_finite_args.Facts where
  bcast_S_S4096x256 := by decide
  reducesTo_S4096x256_S_d0_1 := by decide
  h_S_ := by decide
  bcast_S_S256x128 := by decide
  reducesTo_S256x128_S_d0_1 := by decide
  bcast_S_S256x1 := by decide
  reducesTo_S256x1_S_d0_1 := by decide
  bcast_S_S512x128 := by decide
  reducesTo_S512x128_S_d0_1 := by decide

/-- Rounding-free, the kernel runs, keeps its arguments and ends with every counter at zero. -/
theorem ideal_frame : quiescent_KernelIdeal (hKernelIdeal := KernelIdeal.Gen.facts) :=
  fun m g _ => KernelIdeal.Gat.run_frame (F := Ideal) m g

/-- The same of the memories the precondition admits. -/
theorem ideal_frame_pre : quiescent_KernelIdeal_pre_finite_args (hKernelIdeal := KernelIdeal.Gen.facts) (hPre_finite_args := preFacts) :=
  fun m g _ => KernelIdeal.Gat.run_frame (F := Ideal) m g

end Cert.Gat

end
-- ==== Proof.Gat.PreReal.lean ====
/- The precondition, read as finiteness of the arguments. -/
module

public import proofs.«01_k».proof.Proof.Gat.Spec
public import proofs.«01_k».proof.Proof.Gat.KernelVal
public import proofs.«01_k».proof.Proof.Gat.Frames
public import Idealize.ShloMosaic.Lib.Pointwise
public import Idealize.ShloMosaic.Lib.Pipeline.ValueKit

@[expose] public section

set_option maxRecDepth 16384

noncomputable section

namespace Cert.Gat

open Idealize.ShloMosaic

open Cert.Pre_finite_args Cert.Pre_finite_args.Facts

/-- The positive infinity of the precondition. -/
theorem top_eq : Ideal.ofBits .f32 0x7F800000#32 = (⊤ : EReal) := by
  simp only [Ideal.ofBits, Ideal.ieee]
  rw [if_pos (by decide), if_pos (by decide), if_neg (by decide)]

/-- A conjunction over a finite set that is true is true at each member. -/
theorem fold_andi_one {ι : Type} [DecidableEq ι] (s : Finset ι) (p : ι → BitVec 1) (h : Finset.fold IntOp.andi (1#1) p s = 1#1) : ∀ i ∈ s, p i = 1#1 := by
  have two : ∀ a b : BitVec 1, IntOp.andi a b = 1#1 → a = 1#1 ∧ b = 1#1 := by decide
  induction s using Finset.induction_on with
  | empty => exact fun i hi => absurd hi (Finset.notMem_empty i)
  | insert a s ha ih =>
    rw [Finset.fold_insert ha] at h
    intro i hi
    rcases Finset.mem_insert.mp hi with rfl | hi
    · exact (two _ _ h).1
    · exact ih (two _ _ h).2 i hi

/-- A conjunction of two truth values that is true. -/
theorem andi_one (a b : IVec S_ 1) : andi a b ix0 = 1#1 ↔ a ix0 = 1#1 ∧ b ix0 = 1#1 := by
  have two : ∀ a b : BitVec 1, IntOp.andi a b = 1#1 ↔ a = 1#1 ∧ b = 1#1 := by decide
  exact two _ _

/-- An extended real whose absolute value is below infinity is neither infinity. -/
theorem abs_lt_top (x : EReal) (h : Ideal.cmp .olt (max x (-x)) ⊤ = 1#1) : x ≠ ⊥ ∧ x ≠ ⊤ := by
  have h' : max x (-x) < ⊤ := by
    by_contra q
    simp [Ideal.cmp, q] at h
  constructor
  · rintro rfl
    exact absurd h' (by simp)
  · rintro rfl
    exact absurd h' (by simp)

/-- One conjunct of the precondition: every entry of the array is finite. -/
theorem finite_of_reduce {n0 n1 : ℕ} (x : FVec Ideal ⟨2, ![n0, n1]⟩ .f32) (bc : S_.BroadcastsInDim ⟨2, ![n0, n1]⟩ (![] : Fin 0 → Fin 2)) (h : (⟨2, ![n0, n1]⟩ : Shape).ReducesTo [0, 1] S_) (hu : 0 < S_.numel)
    (e : Host.reduce IntOp.andi (cmpf .olt (Host.absf x) (broadcastInDim ⟨2, ![n0, n1]⟩ ![] bc (constant S_ .f32 0x7F800000#32))) (constantI S_ 1 1#1) h hu ix0 = 1#1) : Finite x := by
  rw [Host.reduce_eq_fold] at e
  intro i j
  have k := fold_andi_one _ _ e (ix2 i j) (Finset.mem_filter.mpr ⟨Finset.mem_univ _, funext fun q => q.elim0⟩)
  refine abs_lt_top _ ?_
  rw [← top_eq]
  exact k

/-- The precondition says that every argument but the adjacency matrix is finite. -/
theorem fn_finite [Facts] (x : FVec Ideal S4096x256 .f32) (adj : FVec Ideal S4096x4096 .f32) (w0 : FVec Ideal S256x128 .f32) (a0 : FVec Ideal S256x1 .f32) (w1 : FVec Ideal S256x128 .f32) (a1 : FVec Ideal S256x1 .f32) (w2 : FVec Ideal S256x128 .f32) (a2 : FVec Ideal S256x1 .f32) (w3 : FVec Ideal S256x128 .f32) (a3 : FVec Ideal S256x1 .f32) (wo : FVec Ideal S512x128 .f32) (ao : FVec Ideal S256x1 .f32) (e : fn (F := Ideal) x adj w0 a0 w1 a1 w2 a2 w3 a3 wo ao = fun _ => 1#1) :
    Finite (a := 4096) (b := 256) x ∧ Finite (a := 256) (b := 128) w0 ∧ Finite (a := 256) (b := 1) a0 ∧ Finite (a := 256) (b := 128) w1 ∧ Finite (a := 256) (b := 1) a1 ∧ Finite (a := 256) (b := 128) w2 ∧ Finite (a := 256) (b := 1) a2 ∧ Finite (a := 256) (b := 128) w3 ∧ Finite (a := 256) (b := 1) a3 ∧ Finite (a := 512) (b := 128) wo ∧ Finite (a := 256) (b := 1) ao := by
  have e := congrFun e ix0
  unfold fn fn_part1 fn_part2 fn_part3 at e
  simp only [andi_one] at e
  obtain ⟨⟨⟨⟨⟨⟨⟨⟨⟨⟨e0, e1⟩, e2⟩, e3⟩, e4⟩, e5⟩, e6⟩, e7⟩, e8⟩, e9⟩, e10⟩ := e
  exact ⟨finite_of_reduce x _ _ _ e0, finite_of_reduce w0 _ _ _ e1, finite_of_reduce a0 _ _ _ e2, finite_of_reduce w1 _ _ _ e3, finite_of_reduce a1 _ _ _ e4, finite_of_reduce w2 _ _ _ e5, finite_of_reduce a2 _ _ _ e6, finite_of_reduce w3 _ _ _ e7, finite_of_reduce a3 _ _ _ e8, finite_of_reduce wo _ _ _ e9, finite_of_reduce ao _ _ _ e10⟩

/-- The arguments of an admitted memory. -/
theorem finite_of_pre (m : (ℓ : Loc KernelIdeal.nD KernelIdeal.τ KernelIdeal.sig) → Buf (Elt Ideal) ℓ) (h : Pre_KernelIdeal_finite_args (hPre_finite_args := preFacts) m) (c : Dev KernelIdeal.nD) : KernelIdeal.Gat.FiniteArgs m c := by
  obtain ⟨hx, hw0, ha0, hw1, ha1, hw2, ha2, hw3, ha3, hwo, hao⟩ := @fn_finite preFacts _ _ _ _ _ _ _ _ _ _ _ _ (h c)
  exact ⟨hx, fun q => match q with | 0 => hw0 | 1 => hw1 | 2 => hw2 | 3 => hw3, fun q => match q with | 0 => ha0 | 1 => ha1 | 2 => ha2 | 3 => ha3, hwo, hao⟩

end Cert.Gat

end
-- ==== Proof.Gat.RefVal.lean ====
/- What the reference computes, read at an entry. -/
module

public import proofs.«01_k».proof.Proof.Gat.Spec
public import proofs.«01_k».proof.Proof.Gen.ReferenceIdeal.Run
public import Idealize.ShloMosaic.Lib.Pointwise

@[expose] public section

set_option maxRecDepth 16384

noncomputable section

namespace Cert.Gat

open Idealize.ShloMosaic

open Cert.ReferenceIdeal Cert.ReferenceIdeal.Gen Cert.Gat

/-- The logits of all pairs, from the projected features and the attention vector. -/
def logitsR (wh : FVec Ideal S4096x128 .f32) (a : FVec Ideal S256x1 .f32) : FVec Ideal S4096x4096 .f32 :=
  addf (broadcastInDim S4096x4096 ![0, 1] bcast_S4096x1_S4096x4096_0_1 (Host.dotGeneral dot_S4096x128_S128x1_S4096x1_1_0_0_1_n_n none wh (extractStridedSlice S128x1 ![0, 0] a slices_S256x1_S128x1_0_0))) (broadcastInDim S4096x4096 ![0, 1] bcast_S1x4096_S4096x4096_0_1 (transpose S1x4096 [1, 0] (Host.dotGeneral dot_S4096x128_S128x1_S4096x1_1_0_0_1_n_n none wh (extractStridedSlice S128x1 ![128, 0] a slices_S256x1_S128x1_128_0)) transposes_S4096x1_S1x4096_1_0))

/-- The masked scores of all pairs. -/
def scoresR (adj u : FVec Ideal S4096x4096 .f32) : FVec Ideal S4096x4096 .f32 :=
  select (cmpf .ogt adj (broadcastInDim S4096x4096 ![] bcast_S_S4096x4096 (constant S_ .f32 0x00000000#32))) (select (cmpf .oge u (broadcastInDim S4096x4096 ![] bcast_S_S4096x4096 (constant S_ .f32 0x00000000#32))) u (mulf (broadcastInDim S4096x4096 ![] bcast_S_S4096x4096 (constant S_ .f32 0x3E4CCCCD#32)) u)) (broadcastInDim S4096x4096 ![] bcast_S_S4096x4096 (constant S_ .f32 0xD9FFCB9E#32))

/-- The row maxima of a matrix, from minus infinity. -/
def rowMax {n0 n1 : ℕ} (h : (⟨2, ![n0, n1]⟩ : Shape).ReducesTo [1] ⟨1, ![n0]⟩) (x : FVec Ideal ⟨2, ![n0, n1]⟩ .f32) : FVec Ideal ⟨1, ![n0]⟩ .f32 :=
  Host.reduce FloatOps.maximumf x (constant S_ .f32 0xFF800000#32) h h_S_

/-- A row maximum, read at an entry. -/
theorem rowMax_at {n0 n1 : ℕ} (h : (⟨2, ![n0, n1]⟩ : Shape).ReducesTo [1] ⟨1, ![n0]⟩) (x : FVec Ideal ⟨2, ![n0, n1]⟩ .f32) (i : Fin n0) :
    rowMax h x (ix1 i) = Finset.univ.fold max (⊥ : EReal) fun k : Fin n1 => x (ix2 i k) := by
  unfold rowMax
  rw [Host.reduce_eq_fold, Shape.ReducesTo.fold_fiber_r2_a1, ← bot_eq]
  rfl

/-- Their exponentials, each row shifted by its maximum. -/
def expsR (e : FVec Ideal S4096x4096 .f32) : FVec Ideal S4096x4096 .f32 :=
  Host.exp (subf e (broadcastInDim S4096x4096 ![0, 1] bcast_S4096x1_S4096x4096_0_1 (broadcastInDim S4096x1 ![0] bcast_S4096_S4096x1_0 (maximumf (broadcastInDim S4096 ![] bcast_S_S4096 (constant S_ .f32 0xFF800000#32)) (rowMax reducesTo_S4096x4096_S4096_d1 e)))))

/-- The attention rows against the projected features. -/
def attR (p : FVec Ideal S4096x4096 .f32) (wh : FVec Ideal S4096x128 .f32) : FVec Ideal S4096x128 .f32 :=
  Host.dotGeneral dot_S4096x4096_S4096x128_S4096x128_1_0_0_1_n_n none (Host.divf p (broadcastInDim S4096x4096 ![0, 1] bcast_S4096x1_S4096x4096_0_1 (broadcastInDim S4096x1 ![0] bcast_S4096_S4096x1_0 (Host.reduceAdd p (constant S_ .f32 0x00000000#32) reducesTo_S4096x4096_S4096_d1 h_S_)))) wh

/-- One head. -/
def headR (adj : FVec Ideal S4096x4096 .f32) (wh : FVec Ideal S4096x128 .f32) (a : FVec Ideal S256x1 .f32) : FVec Ideal S4096x128 .f32 :=
  attR (expsR (scoresR adj (logitsR wh a))) wh

/-- The exponential linear unit of an array. -/
def eluR (z : FVec Ideal S4096x128 .f32) : FVec Ideal S4096x128 .f32 :=
  select (cmpf .ogt z (broadcastInDim S4096x128 ![] bcast_S_S4096x128 (constant S_ .f32 0x00000000#32))) z (mulf (broadcastInDim S4096x128 ![] bcast_S_S4096x128 (constant S_ .f32 0x3F800000#32)) (Host.expm1 (select (cmpf .ogt z (broadcastInDim S4096x128 ![] bcast_S_S4096x128 (constant S_ .f32 0x00000000#32))) (broadcastInDim S4096x128 ![] bcast_S_S4096x128 (constant S_ .f32 0x00000000#32)) z)))

/-- A row shifted by its maximum. -/
def shiftR (z : FVec Ideal S4096x128 .f32) : FVec Ideal S4096x128 .f32 :=
  subf z (broadcastInDim S4096x128 ![0, 1] bcast_S4096x1_S4096x128_0_1 (broadcastInDim S4096x1 ![0] bcast_S4096_S4096x1_0 (maximumf (broadcastInDim S4096 ![] bcast_S_S4096 (constant S_ .f32 0xFF800000#32)) (rowMax reducesTo_S4096x128_S4096_d1 z))))

/-- The logarithm of the softmax of a shifted row. -/
def lsmR (s : FVec Ideal S4096x128 .f32) : FVec Ideal S4096x128 .f32 :=
  subf s (broadcastInDim S4096x128 ![0, 1] bcast_S4096x1_S4096x128_0_1 (Host.log (broadcastInDim S4096x1 ![0] bcast_S4096_S4096x1_0 (Host.reduceAdd (Host.exp s) (constant S_ .f32 0x00000000#32) reducesTo_S4096x128_S4096_d1 h_S_))))

/-- The first projection. -/
def projR (x : FVec Ideal S4096x256 .f32) (w : FVec Ideal S256x128 .f32) : FVec Ideal S4096x128 .f32 :=
  Host.dotGeneral dot_S4096x256_S256x128_S4096x128_1_0_0_1_n_n none x w

/-- Four heads side by side. -/
def catR (a b c d : FVec Ideal S4096x128 .f32) : FVec Ideal S4096x512 .f32 :=
  concatenate S4096x512 1 [⟨S4096x128, a⟩, ⟨S4096x128, b⟩, ⟨S4096x128, c⟩, ⟨S4096x128, d⟩] concatenates_S4096x128_S4096x128_S4096x128_S4096x128_S4096x512_d1

/-- The second projection. -/
def proj2R (x : FVec Ideal S4096x512 .f32) (w : FVec Ideal S512x128 .f32) : FVec Ideal S4096x128 .f32 :=
  Host.dotGeneral dot_S4096x512_S512x128_S4096x128_1_0_0_1_n_n none x w

/-- The logit of a pair, read at an entry. -/
theorem logitsR_at (wh : FVec Ideal S4096x128 .f32) (a : FVec Ideal S256x1 .f32) (i j : Fin 4096) :
    logitsR wh a (ix2 i j) = (∑ k : Fin 128, wh (ix2 i k) * a (ix2 (⟨k.val, by omega⟩ : Fin 256) (0 : Fin 1))) + ∑ k : Fin 128, wh (ix2 j k) * a (ix2 (⟨128 + k.val, by omega⟩ : Fin 256) (0 : Fin 1)) := by
  pointwise [logitsR]

/-- The masked score of a pair, read at an entry. -/
theorem scoresR_at (adj u : FVec Ideal S4096x4096 .f32) (i j : Fin 4096) : scoresR adj u (ix2 i j) = scoreE (adj (ix2 i j)) (u (ix2 i j)) := by
  pointwise [scoresR]
  rw [slope_eq, masked_eq]
  rfl

/-- A column spread along its rows. -/
theorem spread_at (v : FVec Ideal S4096 .f32) (i j : Fin 4096) :
    broadcastInDim S4096x4096 ![0, 1] bcast_S4096x1_S4096x4096_0_1 (broadcastInDim S4096x1 ![0] bcast_S4096_S4096x1_0 v) (ix2 i j) = v (ix1 i) := by
  pointwise

/-- A vector against minus infinity. -/
theorem maxBot_at (v : FVec Ideal S4096 .f32) (i : Fin 4096) :
    maximumf (broadcastInDim S4096 ![] bcast_S_S4096 (constant S_ .f32 0xFF800000#32)) v (ix1 i) = max ⊥ (v (ix1 i)) := by
  rw [← bot_eq]
  pointwise

/-- The exponential of a difference, read at an entry. -/
theorem expSub_at (e b : FVec Ideal S4096x4096 .f32) (i j : Fin 4096) : Host.exp (subf e b) (ix2 i j) = Ideal.exp (e (ix2 i j) - b (ix2 i j)) := by
  pointwise

/-- The exponential of a score shifted by its row maximum, read at an entry. -/
theorem expsR_at (e : FVec Ideal S4096x4096 .f32) (i j : Fin 4096) :
    expsR e (ix2 i j) = Ideal.exp (e (ix2 i j) - max ⊥ (Finset.univ.fold max (⊥ : EReal) fun k => e (ix2 i k))) := by
  unfold expsR
  rw [expSub_at, spread_at, maxBot_at, rowMax_at]

/-- The attention rows against the features, read at an entry. -/
theorem attR_at (p : FVec Ideal S4096x4096 .f32) (wh : FVec Ideal S4096x128 .f32) (i : Fin 4096) (f : Fin 128) :
    attR p wh (ix2 i f) = ∑ j : Fin 4096, Ideal.div (p (ix2 i j)) (∑ k : Fin 4096, p (ix2 i k)) * wh (ix2 j f) := by
  pointwise [attR]

/-- The exponential linear unit, read at an entry. -/
theorem eluR_at (z : FVec Ideal S4096x128 .f32) (i : Fin 4096) (f : Fin 128) : eluR z (ix2 i f) = eluE (z (ix2 i f)) := by
  pointwise [eluR]
  unfold eluE
  by_cases h : 0 < z (ix2 i f)
  · rw [if_pos h, if_pos h]
  · rw [if_neg h, if_neg h, if_neg h]

/-- A row shifted by its maximum, read at an entry. -/
theorem shiftR_at (z : FVec Ideal S4096x128 .f32) (i : Fin 4096) (f : Fin 128) :
    shiftR z (ix2 i f) = z (ix2 i f) - max ⊥ (Finset.univ.fold max (⊥ : EReal) fun k => z (ix2 i k)) := by
  have hM := rowMax_at reducesTo_S4096x128_S4096_d1 z i
  unfold shiftR
  generalize rowMax reducesTo_S4096x128_S4096_d1 z = M at hM ⊢
  rw [← hM, ← bot_eq]
  pointwise

/-- The logarithm of the softmax of a shifted row, read at an entry. -/
theorem lsmR_at (s : FVec Ideal S4096x128 .f32) (i : Fin 4096) (f : Fin 128) :
    lsmR s (ix2 i f) = s (ix2 i f) - Ideal.log (∑ k : Fin 128, Ideal.exp (s (ix2 i k))) := by
  pointwise [lsmR]

/-- The first projection, read at an entry. -/
theorem projR_at (x : FVec Ideal S4096x256 .f32) (w : FVec Ideal S256x128 .f32) (i : Fin 4096) (f : Fin 128) :
    projR x w (ix2 i f) = ∑ k : Fin 256, x (ix2 i k) * w (ix2 k f) := by
  pointwise [projR]

/-- The second projection, read at an entry. -/
theorem proj2R_at (x : FVec Ideal S4096x512 .f32) (w : FVec Ideal S512x128 .f32) (i : Fin 4096) (f : Fin 128) :
    proj2R x w (ix2 i f) = ∑ k : Fin 512, x (ix2 i k) * w (ix2 k f) := by
  pointwise [proj2R]

/-- Four heads side by side, read at an entry: column `k` is column `k % 128` of head `k / 128`. -/
theorem catR_at (g : Fin 4 → FVec Ideal S4096x128 .f32) (i : Fin 4096) (k : Fin 512) :
    catR (g 0) (g 1) (g 2) (g 3) (ix2 i k) = g ⟨k.val / 128, by omega⟩ (ix2 i ⟨k.val % 128, by omega⟩) := by
  have key : ∀ (q : Fin 4) (r : Fin 128), 128 * q.val + r.val = k.val →
      g q (ix2 i r) = g ⟨k.val / 128, by omega⟩ (ix2 i (⟨k.val % 128, Nat.mod_lt _ (by decide)⟩ : Fin 128)) := by
    intro q r hqr
    have hq : (⟨k.val / 128, by omega⟩ : Fin 4) = q := Fin.ext (by show k.val / 128 = q.val; omega)
    rw [hq]
    exact congrArg (fun r : Fin 128 => g q (ix2 i r)) (Fin.ext (by show r.val = k.val % 128; omega))
  have hk := k.isLt
  pointwise [catR]
  by_cases h0 : k.val < 128
  · rw [dif_pos h0]
    exact key 0 _ (by show 128 * 0 + k.val = k.val; omega)
  · rw [dif_neg h0]
    by_cases h1 : k.val - 128 < 128
    · rw [dif_pos h1]
      exact key 1 ⟨k.val - 128, h1⟩ (by show 128 * 1 + (k.val - 128) = k.val; omega)
    · rw [dif_neg h1]
      by_cases h2 : k.val - 128 - 128 < 128
      · rw [dif_pos h2]
        exact key 2 ⟨k.val - 128 - 128, h2⟩ (by show 128 * 2 + (k.val - 128 - 128) = k.val; omega)
      · rw [dif_neg h2]
        exact key 3 ⟨k.val - 128 - 128 - 128, by omega⟩ (by show 128 * 3 + (k.val - 128 - 128 - 128) = k.val; omega)

/-- The logit of a pair, from real features and a real attention vector. -/
theorem logitsR_real (wh : FVec Ideal S4096x128 .f32) (a : FVec Ideal S256x1 .f32) (G : ℕ → ℕ → ℝ) (hw : ∀ (j : Fin 4096) (f : Fin 128), wh (ix2 j f) = (G f.val j.val : EReal)) (ha : Finite (a := 256) (b := 1) a) (i j : Fin 4096) :
    logitsR wh a (ix2 i j) = ((half G (realAt (a := 256) (b := 1) a) 0 i.val + half G (realAt (a := 256) (b := 1) a) 128 j.val : ℝ) : EReal) := by
  rw [logitsR_at, EReal.coe_add]
  unfold half
  rw [← dot_coe 128 (fun f => G f i.val), ← dot_coe 128 (fun f => G f j.val)]
  congr 1
  · exact Finset.sum_congr rfl fun k _ => by rw [hw, ha.eq]; simp
  · exact Finset.sum_congr rfl fun k _ => by rw [hw, ha.eq]; simp

/-- One head of the reference at an entry. -/
theorem headR_real (adj : FVec Ideal S4096x4096 .f32) (wh : FVec Ideal S4096x128 .f32) (a : FVec Ideal S256x1 .f32) (G : ℕ → ℕ → ℝ) (hw : ∀ (j : Fin 4096) (f : Fin 128), wh (ix2 j f) = (G f.val j.val : EReal)) (ha : Finite (a := 256) (b := 1) a) (i : Fin 4096) (f : Fin 128) :
    headR adj wh a (ix2 i f) = (head (natAt (a := 4096) (b := 4096) adj) G (realAt (a := 256) (b := 1) a) i.val f.val : EReal) := by
  have hs : ∀ i j : Fin 4096, scoresR adj (logitsR wh a) (ix2 i j) = (pairScore (natAt (a := 4096) (b := 4096) adj) G (realAt (a := 256) (b := 1) a) i.val j.val : EReal) := fun i j => by
    rw [scoresR_at, logitsR_real wh a G hw ha, scoreE_coe]
    unfold pairScore
    rw [natAt_eq]
  unfold headR
  rw [attR_at]
  obtain ⟨M, hM⟩ := fold_max_real (n := 4095) fun k => pairScore (natAt (a := 4096) (b := 4096) adj) G (realAt (a := 256) (b := 1) a) i.val k.val
  have he : ∀ j : Fin 4096, expsR (scoresR adj (logitsR wh a)) (ix2 i j) = Ideal.exp ((pairScore (natAt (a := 4096) (b := 4096) adj) G (realAt (a := 256) (b := 1) a) i.val j.val : EReal) - (M : EReal)) := fun j => by
    rw [expsR_at, hs, ← hM, max_eq_right bot_le]
    simp only [hs]
  simp only [he, hw]
  exact softmax_row (by decide) _ _ M

/-- The exponential linear unit of a real array. -/
theorem eluR_real (z : FVec Ideal S4096x128 .f32) (r : ℕ → ℕ → ℝ) (hz : ∀ (i : Fin 4096) (f : Fin 128), z (ix2 i f) = (r i.val f.val : EReal)) (i : Fin 4096) (f : Fin 128) :
    eluR z (ix2 i f) = (elu (r i.val f.val) : EReal) := by
  rw [eluR_at, hz, eluE_coe]

/-- The logarithm of the softmax of a real array. -/
theorem lsmR_real (z : FVec Ideal S4096x128 .f32) (r : ℕ → Fin 128 → ℝ) (hz : ∀ (i : Fin 4096) (f : Fin 128), z (ix2 i f) = (r i.val f : EReal)) (i : Fin 4096) (f : Fin 128) :
    lsmR (shiftR z) (ix2 i f) = (lsm (r i.val) f : EReal) := by
  obtain ⟨M, hM⟩ := fold_max_real (n := 127) (r i.val)
  have hs : ∀ f : Fin 128, shiftR z (ix2 i f) = (r i.val f : EReal) - (M : EReal) := fun f => by
    rw [shiftR_at, hz, ← hM, max_eq_right bot_le]
    simp only [hz]
  rw [lsmR_at]
  simp only [hs]
  exact lsm_row (by decide) _ M f

/-- A projection of real features of width 256. -/
theorem projR_real (x : FVec Ideal S4096x256 .f32) (w : FVec Ideal S256x128 .f32) (hx : Finite (a := 4096) (b := 256) x) (hw : Finite (a := 256) (b := 128) w) (i : Fin 4096) (f : Fin 128) :
    projR x w (ix2 i f) = (proj 256 (realAt (a := 4096) (b := 256) x) (realAt (a := 256) (b := 128) w) f.val i.val : EReal) := by
  unfold proj
  rw [projR_at, ← dot_coe 256 (fun k => realAt (a := 4096) (b := 256) x i.val k) (fun k => realAt (a := 256) (b := 128) w k f.val)]
  exact Finset.sum_congr rfl fun k _ => by rw [hx.eq, hw.eq]

/-- A projection of real features of width 512. -/
theorem proj2R_real (x : FVec Ideal S4096x512 .f32) (w : FVec Ideal S512x128 .f32) (X : ℕ → ℕ → ℝ) (hx : ∀ (i : Fin 4096) (k : Fin 512), x (ix2 i k) = (X i.val k.val : EReal)) (hw : Finite (a := 512) (b := 128) w) (i : Fin 4096) (f : Fin 128) :
    proj2R x w (ix2 i f) = (proj 512 X (realAt (a := 512) (b := 128) w) f.val i.val : EReal) := by
  unfold proj
  rw [proj2R_at, ← dot_coe 512 (fun k => X i.val k) (fun k => realAt (a := 512) (b := 128) w k f.val)]
  exact Finset.sum_congr rfl fun k _ => by rw [hx, hw.eq]

/-- The whole reference, from its arguments. -/
def refOut (x : FVec Ideal S4096x256 .f32) (adj : FVec Ideal S4096x4096 .f32) (W : Fin 4 → FVec Ideal S256x128 .f32) (A : Fin 4 → FVec Ideal S256x1 .f32) (Wo : FVec Ideal S512x128 .f32) (Ao : FVec Ideal S256x1 .f32) : FVec Ideal S4096x128 .f32 :=
  lsmR (shiftR (eluR (headR adj (proj2R (catR (eluR (headR adj (projR x (W 0)) (A 0))) (eluR (headR adj (projR x (W 1)) (A 1))) (eluR (headR adj (projR x (W 2)) (A 2))) (eluR (headR adj (projR x (W 3)) (A 3)))) Wo) Ao)))

/-- The reference is the two attention layers over the reals. -/
theorem refOut_real (x : FVec Ideal S4096x256 .f32) (adj : FVec Ideal S4096x4096 .f32) (W : Fin 4 → FVec Ideal S256x128 .f32) (A : Fin 4 → FVec Ideal S256x1 .f32) (Wo : FVec Ideal S512x128 .f32) (Ao : FVec Ideal S256x1 .f32)
    (hx : Finite (a := 4096) (b := 256) x) (hW : ∀ h, Finite (a := 256) (b := 128) (W h)) (hA : ∀ h, Finite (a := 256) (b := 1) (A h)) (hWo : Finite (a := 512) (b := 128) Wo) (hAo : Finite (a := 256) (b := 1) Ao) (i : Fin 4096) (f : Fin 128) :
    refOut x adj W A Wo Ao (ix2 i f) = (result (natAt (a := 4096) (b := 4096) adj) (realAt (a := 4096) (b := 256) x) (four fun h => realAt (a := 256) (b := 128) (W h)) (four fun h => realAt (a := 256) (b := 1) (A h)) (realAt (a := 512) (b := 128) Wo) (realAt (a := 256) (b := 1) Ao) i.val f : EReal) := by
  have hh : ∀ (h : Fin 4) (i : Fin 4096) (f : Fin 128), eluR (headR adj (projR x (W h)) (A h)) (ix2 i f) = (elu (head (natAt (a := 4096) (b := 4096) adj) (proj 256 (realAt (a := 4096) (b := 256) x) (realAt (a := 256) (b := 128) (W h))) (realAt (a := 256) (b := 1) (A h)) i.val f.val) : EReal) :=
    fun h i f => eluR_real _ (fun i f => head (natAt (a := 4096) (b := 4096) adj) (proj 256 (realAt (a := 4096) (b := 256) x) (realAt (a := 256) (b := 128) (W h))) (realAt (a := 256) (b := 1) (A h)) i f)
      (fun i f => headR_real adj _ _ _ (fun j f => projR_real x (W h) hx (hW h) j f) (hA h) i f) i f
  have hc : ∀ (i : Fin 4096) (k : Fin 512), catR (eluR (headR adj (projR x (W 0)) (A 0))) (eluR (headR adj (projR x (W 1)) (A 1))) (eluR (headR adj (projR x (W 2)) (A 2))) (eluR (headR adj (projR x (W 3)) (A 3))) (ix2 i k) =
      (hidden (natAt (a := 4096) (b := 4096) adj) (realAt (a := 4096) (b := 256) x) (four fun h => realAt (a := 256) (b := 128) (W h)) (four fun h => realAt (a := 256) (b := 1) (A h)) i.val k.val : EReal) := fun i k => by
    rw [catR_at (fun h => eluR (headR adj (projR x (W h)) (A h))), hh]
    have hk : k.val / 128 < 4 := by omega
    unfold hidden four
    rw [dif_pos hk, dif_pos hk]
  unfold refOut
  exact lsmR_real _ (fun i f => elu (head (natAt (a := 4096) (b := 4096) adj) (proj 512 _ (realAt (a := 512) (b := 128) Wo)) (realAt (a := 256) (b := 1) Ao) i f.val))
    (fun i f => eluR_real _ (fun i f => head (natAt (a := 4096) (b := 4096) adj) (proj 512 _ (realAt (a := 512) (b := 128) Wo)) (realAt (a := 256) (b := 1) Ao) i f)
      (fun i f => headR_real adj _ _ _ (fun j f => proj2R_real _ Wo _ hc hWo j f) hAo i f) i f) i f

end Cert.Gat

end
-- ==== Proof.Gat.RefEq.lean ====
/- The reference as printed is the composition of its steps. -/
module

public import proofs.«01_k».proof.Proof.Gat.RefVal
public import Idealize.ShloMosaic.Lib.Pointwise
public import Idealize.ShloMosaic.Lib.Pipeline.ValueKit

@[expose] public section

set_option maxRecDepth 16384

noncomputable section

namespace Cert.Gat

open Idealize.ShloMosaic

open Cert.ReferenceIdeal Cert.ReferenceIdeal.Gen Cert.ReferenceIdeal.Value Idealize.ShloMosaic.TcCoe

variable (V0 : Valuation τ sig (Elt Ideal))

/-- Head 0 of the reference. -/
theorem head0_eq : res_main_v24 V0 = headR (V0 (Proc.devRef .tc main_arg1)) (projR (V0 (Proc.devRef .tc main_arg0)) (V0 (Proc.devRef .tc main_arg2))) (V0 (Proc.devRef .tc main_arg3)) := rfl

/-- Head 1 of the reference. -/
theorem head1_eq : res_main_v50 V0 = headR (V0 (Proc.devRef .tc main_arg1)) (projR (V0 (Proc.devRef .tc main_arg0)) (V0 (Proc.devRef .tc main_arg4))) (V0 (Proc.devRef .tc main_arg5)) := rfl

/-- Head 2 of the reference. -/
theorem head2_eq : res_main_v76 V0 = headR (V0 (Proc.devRef .tc main_arg1)) (projR (V0 (Proc.devRef .tc main_arg0)) (V0 (Proc.devRef .tc main_arg6))) (V0 (Proc.devRef .tc main_arg7)) := rfl

/-- Head 3 of the reference. -/
theorem head3_eq : res_main_v102 V0 = headR (V0 (Proc.devRef .tc main_arg1)) (projR (V0 (Proc.devRef .tc main_arg0)) (V0 (Proc.devRef .tc main_arg8))) (V0 (Proc.devRef .tc main_arg9)) := rfl

/-- The weights of the four heads. -/
def refW : Fin 4 → FVec Ideal S256x128 .f32
  | 0 => V0 (Proc.devRef .tc main_arg2)
  | 1 => V0 (Proc.devRef .tc main_arg4)
  | 2 => V0 (Proc.devRef .tc main_arg6)
  | 3 => V0 (Proc.devRef .tc main_arg8)

/-- Their attention vectors. -/
def refA : Fin 4 → FVec Ideal S256x1 .f32
  | 0 => V0 (Proc.devRef .tc main_arg3)
  | 1 => V0 (Proc.devRef .tc main_arg5)
  | 2 => V0 (Proc.devRef .tc main_arg7)
  | 3 => V0 (Proc.devRef .tc main_arg9)

/-- The hidden features of the reference, projected. -/
theorem proj2_eq : res_main_v105 V0 = proj2R (catR (eluR (res_main_v24 V0)) (eluR (res_main_v50 V0)) (eluR (res_main_v76 V0)) (eluR (res_main_v102 V0))) (V0 (Proc.devRef .tc main_arg10)) := rfl

/-- The last head of the reference. -/
theorem last_eq : res_main_v129 V0 = headR (V0 (Proc.devRef .tc main_arg1)) (res_main_v105 V0) (V0 (Proc.devRef .tc main_arg11)) := rfl

/-- Its rows, shifted by their maxima. -/
theorem shift_eq : res_main_call15_v5 V0 = shiftR (eluR (res_main_v129 V0)) := rfl

/-- The result of the reference. -/
theorem ref_eq : subf (res_main_call15_v5 V0) (broadcastInDim S4096x128 ![0, 1] bcast_S4096x1_S4096x128_0_1 (Host.log (broadcastInDim S4096x1 ![0] bcast_S4096_S4096x1_0 (Host.reduceAdd (Host.exp (res_main_call15_v5 V0)) (constant S_ .f32 0x00000000#32) reducesTo_S4096x128_S4096_d1 h_S_))))
    = refOut (V0 (Proc.devRef .tc main_arg0)) (V0 (Proc.devRef .tc main_arg1)) (refW V0) (refA V0) (V0 (Proc.devRef .tc main_arg10)) (V0 (Proc.devRef .tc main_arg11)) := by
  rw [shift_eq, last_eq, proj2_eq, head0_eq, head1_eq, head2_eq, head3_eq]
  rfl

end Cert.Gat

end
-- ==== Proof.Gat.RefRun.lean ====
/- The frame of the reference. -/
module

public import proofs.«01_k».proof.Defs
public import proofs.«01_k».proof.Proof.Gen.ReferenceIdeal.Run

@[expose] public section

set_option maxRecDepth 16384

noncomputable section

namespace Cert.Gat

open Idealize.ShloMosaic Idealize.SL.Sem

/-- The reference runs, keeps its arguments and ends with every counter at zero. -/
theorem ref_run (m : (ℓ : Loc ReferenceIdeal.nD ReferenceIdeal.τ ReferenceIdeal.sig) → Buf (Elt Ideal) ℓ) (g : Dev ReferenceIdeal.nD → PrngReg) :
    θ_run (ReferenceIdeal.defs (F := Ideal)) (onTc (τ := ReferenceIdeal.τ) (@ReferenceIdeal.main Ideal _ ReferenceIdeal.Gen.facts)) ⟨m, fun _ => 0, g⟩
      (fun r => (∀ c : Dev ReferenceIdeal.nD, r.2.mem ((c.tc : Thread ReferenceIdeal.nD ReferenceIdeal.τ).loc ReferenceIdeal.main_arg0) = m ((c.tc : Thread ReferenceIdeal.nD ReferenceIdeal.τ).loc ReferenceIdeal.main_arg0) ∧ r.2.mem ((c.tc : Thread ReferenceIdeal.nD ReferenceIdeal.τ).loc ReferenceIdeal.main_arg1) = m ((c.tc : Thread ReferenceIdeal.nD ReferenceIdeal.τ).loc ReferenceIdeal.main_arg1) ∧ r.2.mem ((c.tc : Thread ReferenceIdeal.nD ReferenceIdeal.τ).loc ReferenceIdeal.main_arg2) = m ((c.tc : Thread ReferenceIdeal.nD ReferenceIdeal.τ).loc ReferenceIdeal.main_arg2) ∧ r.2.mem ((c.tc : Thread ReferenceIdeal.nD ReferenceIdeal.τ).loc ReferenceIdeal.main_arg3) = m ((c.tc : Thread ReferenceIdeal.nD ReferenceIdeal.τ).loc ReferenceIdeal.main_arg3) ∧ r.2.mem ((c.tc : Thread ReferenceIdeal.nD ReferenceIdeal.τ).loc ReferenceIdeal.main_arg4) = m ((c.tc : Thread ReferenceIdeal.nD ReferenceIdeal.τ).loc ReferenceIdeal.main_arg4) ∧ r.2.mem ((c.tc : Thread ReferenceIdeal.nD ReferenceIdeal.τ).loc ReferenceIdeal.main_arg5) = m ((c.tc : Thread ReferenceIdeal.nD ReferenceIdeal.τ).loc ReferenceIdeal.main_arg5) ∧ r.2.mem ((c.tc : Thread ReferenceIdeal.nD ReferenceIdeal.τ).loc ReferenceIdeal.main_arg6) = m ((c.tc : Thread ReferenceIdeal.nD ReferenceIdeal.τ).loc ReferenceIdeal.main_arg6) ∧ r.2.mem ((c.tc : Thread ReferenceIdeal.nD ReferenceIdeal.τ).loc ReferenceIdeal.main_arg7) = m ((c.tc : Thread ReferenceIdeal.nD ReferenceIdeal.τ).loc ReferenceIdeal.main_arg7) ∧ r.2.mem ((c.tc : Thread ReferenceIdeal.nD ReferenceIdeal.τ).loc ReferenceIdeal.main_arg8) = m ((c.tc : Thread ReferenceIdeal.nD ReferenceIdeal.τ).loc ReferenceIdeal.main_arg8) ∧ r.2.mem ((c.tc : Thread ReferenceIdeal.nD ReferenceIdeal.τ).loc ReferenceIdeal.main_arg9) = m ((c.tc : Thread ReferenceIdeal.nD ReferenceIdeal.τ).loc ReferenceIdeal.main_arg9) ∧ r.2.mem ((c.tc : Thread ReferenceIdeal.nD ReferenceIdeal.τ).loc ReferenceIdeal.main_arg10) = m ((c.tc : Thread ReferenceIdeal.nD ReferenceIdeal.τ).loc ReferenceIdeal.main_arg10) ∧ r.2.mem ((c.tc : Thread ReferenceIdeal.nD ReferenceIdeal.τ).loc ReferenceIdeal.main_arg11) = m ((c.tc : Thread ReferenceIdeal.nD ReferenceIdeal.τ).loc ReferenceIdeal.main_arg11)) ∧ r.2.sem = fun _ => 0) :=
  (θ_run _ _ _).mono (fun r h => ⟨fun c => (h c).2, sem_eq_zero_of_no_sems (by decide) r.2⟩) (ReferenceIdeal.Value.run m g)

/-- The frame of the reference. -/
theorem ref_frame : quiescent_ReferenceIdeal (hReferenceIdeal := ReferenceIdeal.Gen.facts) :=
  fun m g _ => ref_run m g

end Cert.Gat

end
-- ==== Proof.Gat.Equation.lean ====
/- Kernel and reference leave the same result. -/
module

public import proofs.«01_k».proof.Proof.Gat.PreReal
public import proofs.«01_k».proof.Proof.Gat.RefEq
public import proofs.«01_k».proof.Proof.Gat.RefRun
public import proofs.«01_k».proof.Proof.Gat.Frames
public import Idealize.ShloMosaic.Lib.Pointwise
public import Idealize.ShloMosaic.Lib.Pipeline.ValueKit

@[expose] public section

set_option maxRecDepth 16384

noncomputable section

namespace Cert.Gat

open Idealize.ShloMosaic Idealize.ShloMosaic.TcCoe

open Idealize.SL.Sem

/-- The two programs' arguments agree. -/
def Agree (m : (ℓ : Loc KernelIdeal.nD KernelIdeal.τ KernelIdeal.sig) → Buf (Elt Ideal) ℓ) (m' : (ℓ : Loc ReferenceIdeal.nD ReferenceIdeal.τ ReferenceIdeal.sig) → Buf (Elt Ideal) ℓ) (c : Dev KernelIdeal.nD) : Prop :=
  m' ((c.tc : Thread ReferenceIdeal.nD ReferenceIdeal.τ).loc ReferenceIdeal.main_arg0) = m ((c.tc : Thread KernelIdeal.nD KernelIdeal.τ).loc KernelIdeal.main_arg0)
    ∧ m' ((c.tc : Thread ReferenceIdeal.nD ReferenceIdeal.τ).loc ReferenceIdeal.main_arg1) = m ((c.tc : Thread KernelIdeal.nD KernelIdeal.τ).loc KernelIdeal.main_arg1)
    ∧ m' ((c.tc : Thread ReferenceIdeal.nD ReferenceIdeal.τ).loc ReferenceIdeal.main_arg2) = m ((c.tc : Thread KernelIdeal.nD KernelIdeal.τ).loc KernelIdeal.main_arg2)
    ∧ m' ((c.tc : Thread ReferenceIdeal.nD ReferenceIdeal.τ).loc ReferenceIdeal.main_arg3) = m ((c.tc : Thread KernelIdeal.nD KernelIdeal.τ).loc KernelIdeal.main_arg3)
    ∧ m' ((c.tc : Thread ReferenceIdeal.nD ReferenceIdeal.τ).loc ReferenceIdeal.main_arg4) = m ((c.tc : Thread KernelIdeal.nD KernelIdeal.τ).loc KernelIdeal.main_arg4)
    ∧ m' ((c.tc : Thread ReferenceIdeal.nD ReferenceIdeal.τ).loc ReferenceIdeal.main_arg5) = m ((c.tc : Thread KernelIdeal.nD KernelIdeal.τ).loc KernelIdeal.main_arg5)
    ∧ m' ((c.tc : Thread ReferenceIdeal.nD ReferenceIdeal.τ).loc ReferenceIdeal.main_arg6) = m ((c.tc : Thread KernelIdeal.nD KernelIdeal.τ).loc KernelIdeal.main_arg6)
    ∧ m' ((c.tc : Thread ReferenceIdeal.nD ReferenceIdeal.τ).loc ReferenceIdeal.main_arg7) = m ((c.tc : Thread KernelIdeal.nD KernelIdeal.τ).loc KernelIdeal.main_arg7)
    ∧ m' ((c.tc : Thread ReferenceIdeal.nD ReferenceIdeal.τ).loc ReferenceIdeal.main_arg8) = m ((c.tc : Thread KernelIdeal.nD KernelIdeal.τ).loc KernelIdeal.main_arg8)
    ∧ m' ((c.tc : Thread ReferenceIdeal.nD ReferenceIdeal.τ).loc ReferenceIdeal.main_arg9) = m ((c.tc : Thread KernelIdeal.nD KernelIdeal.τ).loc KernelIdeal.main_arg9)
    ∧ m' ((c.tc : Thread ReferenceIdeal.nD ReferenceIdeal.τ).loc ReferenceIdeal.main_arg10) = m ((c.tc : Thread KernelIdeal.nD KernelIdeal.τ).loc KernelIdeal.main_arg10)
    ∧ m' ((c.tc : Thread ReferenceIdeal.nD ReferenceIdeal.τ).loc ReferenceIdeal.main_arg11) = m ((c.tc : Thread KernelIdeal.nD KernelIdeal.τ).loc KernelIdeal.main_arg11)

/-- The reference's result on the arguments of the kernel. -/
theorem refOut_args (m : (ℓ : Loc KernelIdeal.nD KernelIdeal.τ KernelIdeal.sig) → Buf (Elt Ideal) ℓ) (m' : (ℓ : Loc ReferenceIdeal.nD ReferenceIdeal.τ ReferenceIdeal.sig) → Buf (Elt Ideal) ℓ) (c : Dev KernelIdeal.nD) (h : Agree m m' c) :
    refOut (m' ((c.tc : Thread ReferenceIdeal.nD ReferenceIdeal.τ).loc ReferenceIdeal.main_arg0)) (m' ((c.tc : Thread ReferenceIdeal.nD ReferenceIdeal.τ).loc ReferenceIdeal.main_arg1)) (refW (StableHlo.launchContents m' c)) (refA (StableHlo.launchContents m' c)) (m' ((c.tc : Thread ReferenceIdeal.nD ReferenceIdeal.τ).loc ReferenceIdeal.main_arg10)) (m' ((c.tc : Thread ReferenceIdeal.nD ReferenceIdeal.τ).loc ReferenceIdeal.main_arg11))
      = refOut (KernelIdeal.Gat.argX m c) (KernelIdeal.Gat.argAdj m c) (KernelIdeal.Gat.argW m c) (KernelIdeal.Gat.argA m c) (KernelIdeal.Gat.argWo m c) (KernelIdeal.Gat.argAo m c) := by
  obtain ⟨h0, h1, h2, h3, h4, h5, h6, h7, h8, h9, h10, h11⟩ := h
  have hW : refW (StableHlo.launchContents m' c) = KernelIdeal.Gat.argW m c := funext fun q => match q with | 0 => h2 | 1 => h4 | 2 => h6 | 3 => h8
  have hA : refA (StableHlo.launchContents m' c) = KernelIdeal.Gat.argA m c := funext fun q => match q with | 0 => h3 | 1 => h5 | 2 => h7 | 3 => h9
  rw [hW, hA]
  exact congr (congr (congrFun (congrFun (congr (congrArg refOut h0) h1) _) _) h10) h11

/-- On finite arguments the kernel's result is the reference's. -/
theorem value_eq (m : (ℓ : Loc KernelIdeal.nD KernelIdeal.τ KernelIdeal.sig) → Buf (Elt Ideal) ℓ) (c : Dev KernelIdeal.nD) (H : KernelIdeal.Gat.FiniteArgs m c) :
    refOut (KernelIdeal.Gat.argX m c) (KernelIdeal.Gat.argAdj m c) (KernelIdeal.Gat.argW m c) (KernelIdeal.Gat.argA m c) (KernelIdeal.Gat.argWo m c) (KernelIdeal.Gat.argAo m c)
      = (KernelIdeal.Gat.A6 m c (Proc.devRef .tc KernelIdeal.main_v56) : FVec Ideal ⟨2, ![4096, 128]⟩ .f32) := by
  funext i
  obtain ⟨p, f, rfl⟩ : ∃ (p : Fin 4096) (f : Fin 128), i = ix2 p f := ⟨i 0, i 1, by funext a; fin_cases a <;> rfl⟩
  exact (refOut_real _ _ _ _ _ _ H.x H.W H.A H.Wo H.Ao p f).trans (KernelIdeal.Gat.A6_result m c H p f).symm

/-- The frame of the reference, of the memories the precondition admits. -/
theorem ref_frame_pre : quiescent_ReferenceIdeal_pre_finite_args (hReferenceIdeal := ReferenceIdeal.Gen.facts) (hPre_finite_args := preFacts) :=
  fun m g _ => ref_run m g

/-- Rounding-free, the kernel computes what the reference computes, from finite arguments. -/
theorem algebraic : algebraic_KernelIdeal_ReferenceIdeal_pre_finite_args (hKernelIdeal := KernelIdeal.Gen.facts) (hReferenceIdeal := ReferenceIdeal.Gen.facts) (hPre_finite_args := preFacts) :=
  fun m g m' g' hpre hagree => ⟨fun c => KernelIdeal.Gat.A6 m c (Proc.devRef .tc KernelIdeal.main_v56),
    (θ_run _ _ _).mono (fun _ h => h.1) (KernelIdeal.Gat.run_value m g),
    (θ_run _ _ _).mono (fun _ h c => ⟨(h c).1.trans ((ref_eq (StableHlo.launchContents m' c)).trans ((refOut_args m m' c (hagree c)).trans (value_eq m c (finite_of_pre m hpre c)))), (h c).2⟩)
      (ReferenceIdeal.Value.run m' g')⟩

end Cert.Gat

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gat.Bits
public import proofs.«01_k».proof.Proof.Gat.Equation
public import Idealize.ShloMosaic.Adequacy
public import Idealize.ShloMosaic.Init

@[expose] public section

noncomputable section

namespace Cert.Proof

open Idealize.ShloMosaic Idealize.SL.Sem Cert.Kernel

/-- The certificate. -/
theorem claim : Cert.Claim := ⟨Cert.Kernel.Gen.facts, Cert.KernelIdeal.Gen.facts, Cert.ReferenceIdeal.Gen.facts, Cert.Gat.preFacts,
  Cert.Gat.kernel_frame, Cert.Gat.ideal_frame, Cert.Gat.ideal_frame_pre, Cert.Gat.ref_frame, Cert.Gat.ref_frame_pre, trivial, Cert.Gat.algebraic⟩

end Cert.Proof

end
